-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![768, 3072]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![384, 768]⟩ ⟨2, ![3072, 768]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S768x768 : Shape := ⟨2, ![768, 768]⟩
abbrev S3x384x256 : Shape := ⟨3, ![3, 384, 256]⟩
abbrev S6x384x128 : Shape := ⟨3, ![6, 384, 128]⟩
abbrev S6x192x128 : Shape := ⟨3, ![6, 192, 128]⟩
abbrev S30 : Shape := ⟨1, ![30]⟩
abbrev S_ : Shape := ⟨0, ![]⟩
abbrev S384x384 : Shape := ⟨2, ![384, 384]⟩
abbrev S384x256 : Shape := ⟨2, ![384, 256]⟩
abbrev S384x128 : Shape := ⟨2, ![384, 128]⟩
abbrev S1x384x128 : Shape := ⟨3, ![1, 384, 128]⟩
abbrev S1 : Shape := ⟨1, ![1]⟩
abbrev S1x384x256 : Shape := ⟨3, ![1, 384, 256]⟩
abbrev S1x192x128 : Shape := ⟨3, ![1, 192, 128]⟩
abbrev S192x128 : Shape := ⟨2, ![192, 128]⟩

abbrev nBuf : Space → Nat
  | .hbm => 3
  | .vmem => 12
  | .smem => 0
  | _ => 0

abbrev bufTy : (tb : Table) → Fin (tcTables nBuf tb) → BufTy
  | .hbm, ⟨0, _⟩ => ⟨S768x384, .bf16⟩
  | .hbm, ⟨1, _⟩ => ⟨S384x768, .bf16⟩
  | .hbm, ⟨2, _⟩ => ⟨S768x768, .bf16⟩
  | .local _ .vmem, ⟨0, _⟩ => ⟨S768x384, .bf16⟩
  | .local _ .vmem, ⟨1, _⟩ => ⟨S384x768, .bf16⟩
  | .local _ .vmem, ⟨2, _⟩ => ⟨S768x768, .bf16⟩
  | .local _ .vmem, ⟨3, _⟩ => ⟨S768x384, .bf16⟩
  | .local _ .vmem, ⟨4, _⟩ => ⟨S384x768, .bf16⟩
  | .local _ .vmem, ⟨5, _⟩ => ⟨S3x384x256, .bf16⟩
  | .local _ .vmem, ⟨6, _⟩ => ⟨S6x384x128, .bf16⟩
  | .local _ .vmem, ⟨7, _⟩ => ⟨S6x192x128, .bf16⟩
  | .local _ .vmem, ⟨8, _⟩ => ⟨S6x384x128, .bf16⟩
  | .local _ .vmem, ⟨9, _⟩ => ⟨S6x384x128, .bf16⟩
  | .local _ .vmem, ⟨10, _⟩ => ⟨S6x192x128, .bf16⟩
  | .local _ .vmem, ⟨11, _⟩ => ⟨S6x192x128, .bf16⟩
  | _, _ => ⟨S768x384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  (ofTc nBuf bufTy 1 63 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_22 : BitVec 32 := 1#32
  let v34 : BitVec 32 := Scalar.xori v2 c1_i32_22
  let c1_i32_24 : BitVec 32 := 1#32
  let v35 : BitVec 32 := Scalar.muli v34 c1_i32_24
  let v36 : BitVec 32 := Scalar.addi c0_i32_25 v35
  v36.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_26 : BitVec 32 := 2#32
  let v37 : BitVec 32 := Scalar.xori v2 c2_i32_26
  let c1_i32_28 : BitVec 32 := 1#32
  let v38 : BitVec 32 := Scalar.muli v37 c1_i32_28
  let v39 : BitVec 32 := Scalar.addi c0_i32_29 v38
  v39.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_30 : BitVec 32 := 4#32
  let v40 : BitVec 32 := Scalar.xori v2 c4_i32_30
  let c1_i32_32 : BitVec 32 := 1#32
  let v41 : BitVec 32 := Scalar.muli v40 c1_i32_32
  let v42 : BitVec 32 := Scalar.addi c0_i32_33 v41
  v42.toNat
def k0_off1 (d0 : Dev nD) (c0_i32 : BitVec 32) : Fin 2 → Nat :=
  let c1_i32_41 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.shrsi v2 c0_i32
  let c1_i32_0 : BitVec 32 := 1#32
  let v4 : BitVec 32 := Scalar.andi v3 c1_i32_0
  let v53 : BitVec 32 := Scalar.subi c1_i32_41 v4
  let c384_i32_42 : BitVec 32 := 384#32
  let v54 : BitVec 32 := Scalar.muli v53 c384_i32_42
  let v55 : Index := Scalar.indexCast v54
  let c0_43 : Index := 0#32
  ![v55.toNat, 0]
def k0_dev4 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v15 : BitVec 32 := Scalar.xori v2 c1_i32_10
  let c1_i32_55 : BitVec 32 := 1#32
  let v68 : BitVec 32 := Scalar.muli v15 c1_i32_55
  let v69 : BitVec 32 := Scalar.addi c0_i32_56 v68
  v69.toNat
def k0_dev5 (d0 : Dev nD) : Nat :=
  let c0_i32_66 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v15 : BitVec 32 := Scalar.xori v2 c1_i32_10
  let c1_i32_65 : BitVec 32 := 1#32
  let v78 : BitVec 32 := Scalar.muli v15 c1_i32_65
  let v79 : BitVec 32 := Scalar.addi c0_i32_66 v78
  v79.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_12 : BitVec 32 := 2#32
  let v18 : BitVec 32 := Scalar.xori v2 c2_i32_12
  let c1_i32_84 : BitVec 32 := 1#32
  let v103 : BitVec 32 := Scalar.muli v18 c1_i32_84
  let v104 : BitVec 32 := Scalar.addi c0_i32_85 v103
  v104.toNat
def k0_dev7 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_12 : BitVec 32 := 2#32
  let v18 : BitVec 32 := Scalar.xori v2 c2_i32_12
  let c1_i32_94 : BitVec 32 := 1#32
  let v113 : BitVec 32 := Scalar.muli v18 c1_i32_94
  let v114 : BitVec 32 := Scalar.addi c0_i32_95 v113
  v114.toNat
def k0_dev8 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v21 : BitVec 32 := Scalar.xori v2 c4_i32_15
  let c1_i32_113 : BitVec 32 := 1#32
  let v138 : BitVec 32 := Scalar.muli v21 c1_i32_113
  let v139 : BitVec 32 := Scalar.addi c0_i32_114 v138
  v139.toNat
def k0_dev9 (d0 : Dev nD) : Nat :=
  let c0_i32_123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v21 : BitVec 32 := Scalar.xori v2 c4_i32_15
  let c1_i32_122 : BitVec 32 := 1#32
  let v148 : BitVec 32 := Scalar.muli v21 c1_i32_122
  let v149 : BitVec 32 := Scalar.addi c0_i32_123 v148
  v149.toNat
def k0_off2 (d0 : Dev nD) (c0_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.shrsi v2 c0_i32
  let c1_i32_0 : BitVec 32 := 1#32
  let v4 : BitVec 32 := Scalar.andi v3 c1_i32_0
  let c384_i32_128 : BitVec 32 := 384#32
  let v158 : BitVec 32 := Scalar.muli v4 c384_i32_128
  let v159 : Index := Scalar.indexCast v158
  let c0_129 : Index := 0#32
  ![v159.toNat, 0]
def k0_off3 (d0 : Dev nD) : Fin 3 → Nat :=
  let c0_i32_173 : BitVec 32 := 0#32
  let c1_i32_171 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let v201 : BitVec 32 := Scalar.subi c1_i32_171 v6
  let c192_i32_172 : BitVec 32 := 192#32
  let v202 : BitVec 32 := Scalar.muli v201 c192_i32_172
  let c0_i32_180 : BitVec 32 := 0#32
  ![0, v202.toNat, 0]
def k0_dev10 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v16 : BitVec 32 := Scalar.xori v2 c2_i32_11
  let c1_i32_176 : BitVec 32 := 1#32
  let v203 : BitVec 32 := Scalar.muli v16 c1_i32_176
  let v204 : BitVec 32 := Scalar.addi c0_i32_177 v203
  v204.toNat
def k0_off4 (d0 : Dev nD) : Fin 3 → Nat :=
  let c1_i32_201 : BitVec 32 := 1#32
  let c1_i32_199 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let v229 : BitVec 32 := Scalar.subi c1_i32_199 v6
  let c192_i32_200 : BitVec 32 := 192#32
  let v230 : BitVec 32 := Scalar.muli v229 c192_i32_200
  let c0_i32_208 : BitVec 32 := 0#32
  ![1, v230.toNat, 0]
def k0_dev11 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v16 : BitVec 32 := Scalar.xori v2 c2_i32_11
  let c1_i32_204 : BitVec 32 := 1#32
  let v231 : BitVec 32 := Scalar.muli v16 c1_i32_204
  let v232 : BitVec 32 := Scalar.addi c0_i32_205 v231
  v232.toNat
def k0_off5 (d0 : Dev nD) : Fin 3 → Nat :=
  let c2_i32_230 : BitVec 32 := 2#32
  let c1_i32_228 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let v257 : BitVec 32 := Scalar.subi c1_i32_228 v10
  let c192_i32_229 : BitVec 32 := 192#32
  let v258 : BitVec 32 := Scalar.muli v257 c192_i32_229
  let c0_i32_238 : BitVec 32 := 0#32
  ![2, v258.toNat, 0]
def k0_dev12 (d0 : Dev nD) : Nat :=
  let c0_i32_235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v19 : BitVec 32 := Scalar.xori v2 c4_i32_13
  let c1_i32_234 : BitVec 32 := 1#32
  let v259 : BitVec 32 := Scalar.muli v19 c1_i32_234
  let v260 : BitVec 32 := Scalar.addi c0_i32_235 v259
  v260.toNat
def k0_off6 (d0 : Dev nD) : Fin 3 → Nat :=
  let c3_i32_260 : BitVec 32 := 3#32
  let c1_i32_258 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let v285 : BitVec 32 := Scalar.subi c1_i32_258 v10
  let c192_i32_259 : BitVec 32 := 192#32
  let v286 : BitVec 32 := Scalar.muli v285 c192_i32_259
  let c0_i32_267 : BitVec 32 := 0#32
  ![3, v286.toNat, 0]
def k0_dev13 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v19 : BitVec 32 := Scalar.xori v2 c4_i32_13
  let c1_i32_263 : BitVec 32 := 1#32
  let v287 : BitVec 32 := Scalar.muli v19 c1_i32_263
  let v288 : BitVec 32 := Scalar.addi c0_i32_264 v287
  v288.toNat
def k0_off7 (d0 : Dev nD) : Fin 3 → Nat :=
  let c4_i32_289 : BitVec 32 := 4#32
  let c1_i32_287 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v13 : BitVec 32 := Scalar.shrsi v2 c0_i32_8
  let c1_i32_9 : BitVec 32 := 1#32
  let v14 : BitVec 32 := Scalar.andi v13 c1_i32_9
  let v313 : BitVec 32 := Scalar.subi c1_i32_287 v14
  let c192_i32_288 : BitVec 32 := 192#32
  let v314 : BitVec 32 := Scalar.muli v313 c192_i32_288
  let c0_i32_296 : BitVec 32 := 0#32
  ![4, v314.toNat, 0]
def k0_dev14 (d0 : Dev nD) : Nat :=
  let c0_i32_293 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v22 : BitVec 32 := Scalar.xori v2 c1_i32_16
  let c1_i32_292 : BitVec 32 := 1#32
  let v315 : BitVec 32 := Scalar.muli v22 c1_i32_292
  let v316 : BitVec 32 := Scalar.addi c0_i32_293 v315
  v316.toNat
def k0_off8 (d0 : Dev nD) : Fin 3 → Nat :=
  let c5_i32_318 : BitVec 32 := 5#32
  let c1_i32_316 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v13 : BitVec 32 := Scalar.shrsi v2 c0_i32_8
  let c1_i32_9 : BitVec 32 := 1#32
  let v14 : BitVec 32 := Scalar.andi v13 c1_i32_9
  let v341 : BitVec 32 := Scalar.subi c1_i32_316 v14
  let c192_i32_317 : BitVec 32 := 192#32
  let v342 : BitVec 32 := Scalar.muli v341 c192_i32_317
  let c0_i32_325 : BitVec 32 := 0#32
  ![5, v342.toNat, 0]
def k0_dev15 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v22 : BitVec 32 := Scalar.xori v2 c1_i32_16
  let c1_i32_321 : BitVec 32 := 1#32
  let v343 : BitVec 32 := Scalar.muli v22 c1_i32_321
  let v344 : BitVec 32 := Scalar.addi c0_i32_322 v343
  v344.toNat
def k0_off9 (d0 : Dev nD) : Fin 3 → Nat :=
  let c0_336 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c192_i32_335 : BitVec 32 := 192#32
  let v361 : BitVec 32 := Scalar.muli v6 c192_i32_335
  let v362 : Index := Scalar.indexCast v361
  let c0_337 : Index := 0#32
  ![0, v362.toNat, 0]
def k0_dev16 (d0 : Dev nD) : Nat :=
  let c0_i32_348 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 32 := Scalar.xori v2 c4_i32
  let c1_i32_347 : BitVec 32 := 1#32
  let v371 : BitVec 32 := Scalar.muli v17 c1_i32_347
  let v372 : BitVec 32 := Scalar.addi c0_i32_348 v371
  v372.toNat
def k0_off10 (d0 : Dev nD) : Fin 3 → Nat :=
  let c1_363 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v5 : BitVec 32 := Scalar.shrsi v2 c1_i32_1
  let c1_i32_2 : BitVec 32 := 1#32
  let v6 : BitVec 32 := Scalar.andi v5 c1_i32_2
  let c192_i32_362 : BitVec 32 := 192#32
  let v389 : BitVec 32 := Scalar.muli v6 c192_i32_362
  let v390 : Index := Scalar.indexCast v389
  let c0_364 : Index := 0#32
  ![1, v390.toNat, 0]
def k0_dev17 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 32 := Scalar.xori v2 c4_i32
  let c1_i32_374 : BitVec 32 := 1#32
  let v399 : BitVec 32 := Scalar.muli v17 c1_i32_374
  let v400 : BitVec 32 := Scalar.addi c0_i32_375 v399
  v400.toNat
def k0_off11 (d0 : Dev nD) : Fin 3 → Nat :=
  let c2_390 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c192_i32_389 : BitVec 32 := 192#32
  let v417 : BitVec 32 := Scalar.muli v10 c192_i32_389
  let v418 : Index := Scalar.indexCast v417
  let c0_391 : Index := 0#32
  ![2, v418.toNat, 0]
def k0_dev18 (d0 : Dev nD) : Nat :=
  let c0_i32_402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v20 : BitVec 32 := Scalar.xori v2 c1_i32_14
  let c1_i32_401 : BitVec 32 := 1#32
  let v427 : BitVec 32 := Scalar.muli v20 c1_i32_401
  let v428 : BitVec 32 := Scalar.addi c0_i32_402 v427
  v428.toNat
def k0_off12 (d0 : Dev nD) : Fin 3 → Nat :=
  let c3_417 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v9 : BitVec 32 := Scalar.shrsi v2 c2_i32
  let c1_i32_5 : BitVec 32 := 1#32
  let v10 : BitVec 32 := Scalar.andi v9 c1_i32_5
  let c192_i32_416 : BitVec 32 := 192#32
  let v445 : BitVec 32 := Scalar.muli v10 c192_i32_416
  let v446 : Index := Scalar.indexCast v445
  let c0_418 : Index := 0#32
  ![3, v446.toNat, 0]
def k0_dev19 (d0 : Dev nD) : Nat :=
  let c0_i32_429 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_14 : BitVec 32 := 1#32
  let v20 : BitVec 32 := Scalar.xori v2 c1_i32_14
  let c1_i32_428 : BitVec 32 := 1#32
  let v455 : BitVec 32 := Scalar.muli v20 c1_i32_428
  let v456 : BitVec 32 := Scalar.addi c0_i32_429 v455
  v456.toNat
def k0_off13 (d0 : Dev nD) : Fin 3 → Nat :=
  let c4_444 : Index := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v13 : BitVec 32 := Scalar.shrsi v2 c0_i32_8
  let c1_i32_9 : BitVec 32 := 1#32
  let v14 : BitVec 32 := Scalar.andi v13 c1_i32_9
  let c192_i32_443 : BitVec 32 := 192#32
  let v473 : BitVec 32 := Scalar.muli v14 c192_i32_443
  let v474 : Index := Scalar.indexCast v473
  let c0_445 : Index := 0#32
  ![4, v474.toNat, 0]
def k0_dev20 (d0 : Dev nD) : Nat :=
  let c0_i32_456 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_17 : BitVec 32 := 2#32
  let v23 : BitVec 32 := Scalar.xori v2 c2_i32_17
  let c1_i32_455 : BitVec 32 := 1#32
  let v483 : BitVec 32 := Scalar.muli v23 c1_i32_455
  let v484 : BitVec 32 := Scalar.addi c0_i32_456 v483
  v484.toNat
def k0_off14 (d0 : Dev nD) : Fin 3 → Nat :=
  let c5_471 : Index := 5#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_8 : BitVec 32 := 0#32
  let v13 : BitVec 32 := Scalar.shrsi v2 c0_i32_8
  let c1_i32_9 : BitVec 32 := 1#32
  let v14 : BitVec 32 := Scalar.andi v13 c1_i32_9
  let c192_i32_470 : BitVec 32 := 192#32
  let v501 : BitVec 32 := Scalar.muli v14 c192_i32_470
  let v502 : Index := Scalar.indexCast v501
  let c0_472 : Index := 0#32
  ![5, v502.toNat, 0]
def k0_dev21 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_17 : BitVec 32 := 2#32
  let v23 : BitVec 32 := Scalar.xori v2 c2_i32_17
  let c1_i32_482 : BitVec 32 := 1#32
  let v511 : BitVec 32 := Scalar.muli v23 c1_i32_482
  let v512 : BitVec 32 := Scalar.addi c0_i32_483 v511
  v512.toNat
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 32 := Scalar.shrsi v2 c0_i32
  let c1_i32_0 : BitVec 32 := 1#32
  let v4 : BitVec 32 := Scalar.andi v3 c1_i32_0
  let c384_i32 : BitVec 32 := 384#32
  let v24 : BitVec 32 := Scalar.muli v4 c384_i32
  let c1_i32_1 : BitVec 32 := 1#32
  let v5 : BitVec 32 := Scalar.shrsi v2 c1_i32_1
  let c1_i32_2 : BitVec 32 := 1#32
  let v6 : BitVec 32 := Scalar.andi v5 c1_i32_2
  let c192_i32 : BitVec 32 := 192#32
  let v27 : BitVec 32 := Scalar.muli v6 c192_i32
  let v28 : BitVec 32 := Scalar.addi v24 v27
  let v534 : Index := Scalar.indexCast v28
  let c0_504 : Index := 0#32
  ![v534.toNat, 0]
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 32 := Scalar.shrsi v2 c0_i32
  let c1_i32_0 : BitVec 32 := 1#32
  let v4 : BitVec 32 := Scalar.andi v3 c1_i32_0
  let c384_i32 : BitVec 32 := 384#32
  let v24 : BitVec 32 := Scalar.muli v4 c384_i32
  let c1_i32_1 : BitVec 32 := 1#32
  let v5 : BitVec 32 := Scalar.shrsi v2 c1_i32_1
  let c1_i32_2 : BitVec 32 := 1#32
  let v6 : BitVec 32 := Scalar.andi v5 c1_i32_2
  let c192_i32 : BitVec 32 := 192#32
  let v27 : BitVec 32 := Scalar.muli v6 c192_i32
  let v28 : BitVec 32 := Scalar.addi v24 v27
  let c0_i32_508 : BitVec 32 := 0#32
  ![v28.toNat, 0]
def k0_dev22 (d0 : Dev nD) : Nat :=
  let c0_i32_507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v16 : BitVec 32 := Scalar.xori v2 c2_i32_11
  let c1_i32_506 : BitVec 32 := 1#32
  let v536 : BitVec 32 := Scalar.muli v16 c1_i32_506
  let v537 : BitVec 32 := Scalar.addi c0_i32_507 v536
  v537.toNat
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 32 := Scalar.shrsi v2 c0_i32
  let c1_i32_0 : BitVec 32 := 1#32
  let v4 : BitVec 32 := Scalar.andi v3 c1_i32_0
  let c384_i32 : BitVec 32 := 384#32
  let v24 : BitVec 32 := Scalar.muli v4 c384_i32
  let c1_i32_1 : BitVec 32 := 1#32
  let v5 : BitVec 32 := Scalar.shrsi v2 c1_i32_1
  let c1_i32_2 : BitVec 32 := 1#32
  let v6 : BitVec 32 := Scalar.andi v5 c1_i32_2
  let c192_i32 : BitVec 32 := 192#32
  let v27 : BitVec 32 := Scalar.muli v6 c192_i32
  let v28 : BitVec 32 := Scalar.addi v24 v27
  let v557 : Index := Scalar.indexCast v28
  let c128_526 : Index := 128#32
  ![v557.toNat, 128]
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 32 := Scalar.shrsi v2 c0_i32
  let c1_i32_0 : BitVec 32 := 1#32
  let v4 : BitVec 32 := Scalar.andi v3 c1_i32_0
  let c384_i32 : BitVec 32 := 384#32
  let v24 : BitVec 32 := Scalar.muli v4 c384_i32
  let c1_i32_1 : BitVec 32 := 1#32
  let v5 : BitVec 32 := Scalar.shrsi v2 c1_i32_1
  let c1_i32_2 : BitVec 32 := 1#32
  let v6 : BitVec 32 := Scalar.andi v5 c1_i32_2
  let c192_i32 : BitVec 32 := 192#32
  let v27 : BitVec 32 := Scalar.muli v6 c192_i32
  let v28 : BitVec 32 := Scalar.addi v24 v27
  let c128_i32 : BitVec 32 := 128#32
  ![v28.toNat, 128]
def k0_dev23 (d0 : Dev nD) : Nat :=
  let c0_i32_529 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_11 : BitVec 32 := 2#32
  let v16 : BitVec 32 := Scalar.xori v2 c2_i32_11
  let c1_i32_528 : BitVec 32 := 1#32
  let v559 : BitVec 32 := Scalar.muli v16 c1_i32_528
  let v560 : BitVec 32 := Scalar.addi c0_i32_529 v559
  v560.toNat
def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c384_i32_18 : BitVec 32 := 384#32
  let v25 : BitVec 32 := Scalar.muli v8 c384_i32_18
  let c2_i32 : BitVec 32 := 2#32
  let v9 : BitVec 32 := Scalar.shrsi v2 c2_i32
  let c1_i32_5 : BitVec 32 := 1#32
  let v10 : BitVec 32 := Scalar.andi v9 c1_i32_5
  let c192_i32_20 : BitVec 32 := 192#32
  let v29 : BitVec 32 := Scalar.muli v10 c192_i32_20
  let v30 : BitVec 32 := Scalar.addi v25 v29
  let v580 : Index := Scalar.indexCast v30
  let c256_547 : Index := 256#32
  ![v580.toNat, 256]
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c384_i32_18 : BitVec 32 := 384#32
  let v25 : BitVec 32 := Scalar.muli v8 c384_i32_18
  let c2_i32 : BitVec 32 := 2#32
  let v9 : BitVec 32 := Scalar.shrsi v2 c2_i32
  let c1_i32_5 : BitVec 32 := 1#32
  let v10 : BitVec 32 := Scalar.andi v9 c1_i32_5
  let c192_i32_20 : BitVec 32 := 192#32
  let v29 : BitVec 32 := Scalar.muli v10 c192_i32_20
  let v30 : BitVec 32 := Scalar.addi v25 v29
  let c256_i32 : BitVec 32 := 256#32
  ![v30.toNat, 256]
def k0_dev24 (d0 : Dev nD) : Nat :=
  let c0_i32_550 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v19 : BitVec 32 := Scalar.xori v2 c4_i32_13
  let c1_i32_549 : BitVec 32 := 1#32
  let v582 : BitVec 32 := Scalar.muli v19 c1_i32_549
  let v583 : BitVec 32 := Scalar.addi c0_i32_550 v582
  v583.toNat
def k0_off21 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c384_i32_18 : BitVec 32 := 384#32
  let v25 : BitVec 32 := Scalar.muli v8 c384_i32_18
  let c2_i32 : BitVec 32 := 2#32
  let v9 : BitVec 32 := Scalar.shrsi v2 c2_i32
  let c1_i32_5 : BitVec 32 := 1#32
  let v10 : BitVec 32 := Scalar.andi v9 c1_i32_5
  let c192_i32_20 : BitVec 32 := 192#32
  let v29 : BitVec 32 := Scalar.muli v10 c192_i32_20
  let v30 : BitVec 32 := Scalar.addi v25 v29
  let v603 : Index := Scalar.indexCast v30
  let c384 : Index := 384#32
  ![v603.toNat, 384]
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c384_i32_18 : BitVec 32 := 384#32
  let v25 : BitVec 32 := Scalar.muli v8 c384_i32_18
  let c2_i32 : BitVec 32 := 2#32
  let v9 : BitVec 32 := Scalar.shrsi v2 c2_i32
  let c1_i32_5 : BitVec 32 := 1#32
  let v10 : BitVec 32 := Scalar.andi v9 c1_i32_5
  let c192_i32_20 : BitVec 32 := 192#32
  let v29 : BitVec 32 := Scalar.muli v10 c192_i32_20
  let v30 : BitVec 32 := Scalar.addi v25 v29
  let c384_i32_571 : BitVec 32 := 384#32
  ![v30.toNat, 384]
def k0_dev25 (d0 : Dev nD) : Nat :=
  let c0_i32_570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_13 : BitVec 32 := 4#32
  let v19 : BitVec 32 := Scalar.xori v2 c4_i32_13
  let c1_i32_569 : BitVec 32 := 1#32
  let v605 : BitVec 32 := Scalar.muli v19 c1_i32_569
  let v606 : BitVec 32 := Scalar.addi c0_i32_570 v605
  v606.toNat
def k0_off23 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_6 : BitVec 32 := 2#32
  let v11 : BitVec 32 := Scalar.shrsi v2 c2_i32_6
  let c1_i32_7 : BitVec 32 := 1#32
  let v12 : BitVec 32 := Scalar.andi v11 c1_i32_7
  let c384_i32_19 : BitVec 32 := 384#32
  let v26 : BitVec 32 := Scalar.muli v12 c384_i32_19
  let c0_i32_8 : BitVec 32 := 0#32
  let v13 : BitVec 32 := Scalar.shrsi v2 c0_i32_8
  let c1_i32_9 : BitVec 32 := 1#32
  let v14 : BitVec 32 := Scalar.andi v13 c1_i32_9
  let c192_i32_21 : BitVec 32 := 192#32
  let v31 : BitVec 32 := Scalar.muli v14 c192_i32_21
  let v32 : BitVec 32 := Scalar.addi v26 v31
  let v626 : Index := Scalar.indexCast v32
  let c512_589 : Index := 512#32
  ![v626.toNat, 512]
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_6 : BitVec 32 := 2#32
  let v11 : BitVec 32 := Scalar.shrsi v2 c2_i32_6
  let c1_i32_7 : BitVec 32 := 1#32
  let v12 : BitVec 32 := Scalar.andi v11 c1_i32_7
  let c384_i32_19 : BitVec 32 := 384#32
  let v26 : BitVec 32 := Scalar.muli v12 c384_i32_19
  let c0_i32_8 : BitVec 32 := 0#32
  let v13 : BitVec 32 := Scalar.shrsi v2 c0_i32_8
  let c1_i32_9 : BitVec 32 := 1#32
  let v14 : BitVec 32 := Scalar.andi v13 c1_i32_9
  let c192_i32_21 : BitVec 32 := 192#32
  let v31 : BitVec 32 := Scalar.muli v14 c192_i32_21
  let v32 : BitVec 32 := Scalar.addi v26 v31
  let c512_i32 : BitVec 32 := 512#32
  ![v32.toNat, 512]
def k0_dev26 (d0 : Dev nD) : Nat :=
  let c0_i32_592 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v22 : BitVec 32 := Scalar.xori v2 c1_i32_16
  let c1_i32_591 : BitVec 32 := 1#32
  let v628 : BitVec 32 := Scalar.muli v22 c1_i32_591
  let v629 : BitVec 32 := Scalar.addi c0_i32_592 v628
  v629.toNat
def k0_off25 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_6 : BitVec 32 := 2#32
  let v11 : BitVec 32 := Scalar.shrsi v2 c2_i32_6
  let c1_i32_7 : BitVec 32 := 1#32
  let v12 : BitVec 32 := Scalar.andi v11 c1_i32_7
  let c384_i32_19 : BitVec 32 := 384#32
  let v26 : BitVec 32 := Scalar.muli v12 c384_i32_19
  let c0_i32_8 : BitVec 32 := 0#32
  let v13 : BitVec 32 := Scalar.shrsi v2 c0_i32_8
  let c1_i32_9 : BitVec 32 := 1#32
  let v14 : BitVec 32 := Scalar.andi v13 c1_i32_9
  let c192_i32_21 : BitVec 32 := 192#32
  let v31 : BitVec 32 := Scalar.muli v14 c192_i32_21
  let v32 : BitVec 32 := Scalar.addi v26 v31
  let v649 : Index := Scalar.indexCast v32
  let c640 : Index := 640#32
  ![v649.toNat, 640]
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_6 : BitVec 32 := 2#32
  let v11 : BitVec 32 := Scalar.shrsi v2 c2_i32_6
  let c1_i32_7 : BitVec 32 := 1#32
  let v12 : BitVec 32 := Scalar.andi v11 c1_i32_7
  let c384_i32_19 : BitVec 32 := 384#32
  let v26 : BitVec 32 := Scalar.muli v12 c384_i32_19
  let c0_i32_8 : BitVec 32 := 0#32
  let v13 : BitVec 32 := Scalar.shrsi v2 c0_i32_8
  let c1_i32_9 : BitVec 32 := 1#32
  let v14 : BitVec 32 := Scalar.andi v13 c1_i32_9
  let c192_i32_21 : BitVec 32 := 192#32
  let v31 : BitVec 32 := Scalar.muli v14 c192_i32_21
  let v32 : BitVec 32 := Scalar.addi v26 v31
  let c640_i32 : BitVec 32 := 640#32
  ![v32.toNat, 640]
def k0_dev27 (d0 : Dev nD) : Nat :=
  let c0_i32_612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_16 : BitVec 32 := 1#32
  let v22 : BitVec 32 := Scalar.xori v2 c1_i32_16
  let c1_i32_611 : BitVec 32 := 1#32
  let v651 : BitVec 32 := Scalar.muli v22 c1_i32_611
  let v652 : BitVec 32 := Scalar.addi c0_i32_612 v651
  v652.toNat
def k0_off27 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 32 := Scalar.shrsi v2 c0_i32
  let c1_i32_0 : BitVec 32 := 1#32
  let v4 : BitVec 32 := Scalar.andi v3 c1_i32_0
  let c384_i32 : BitVec 32 := 384#32
  let v24 : BitVec 32 := Scalar.muli v4 c384_i32
  let c0_i32_623 : BitVec 32 := 0#32
  ![v24.toNat, 0]
def k0_dev28 (d0 : Dev nD) : Nat :=
  let c0_i32_622 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v15 : BitVec 32 := Scalar.xori v2 c1_i32_10
  let c1_i32_621 : BitVec 32 := 1#32
  let v665 : BitVec 32 := Scalar.muli v15 c1_i32_621
  let v666 : BitVec 32 := Scalar.addi c0_i32_622 v665
  v666.toNat
def k0_off28 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v3 : BitVec 32 := Scalar.shrsi v2 c0_i32
  let c1_i32_0 : BitVec 32 := 1#32
  let v4 : BitVec 32 := Scalar.andi v3 c1_i32_0
  let c384_i32 : BitVec 32 := 384#32
  let v24 : BitVec 32 := Scalar.muli v4 c384_i32
  let c128_i32_634 : BitVec 32 := 128#32
  ![v24.toNat, 128]
def k0_dev29 (d0 : Dev nD) : Nat :=
  let c0_i32_633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_10 : BitVec 32 := 1#32
  let v15 : BitVec 32 := Scalar.xori v2 c1_i32_10
  let c1_i32_632 : BitVec 32 := 1#32
  let v679 : BitVec 32 := Scalar.muli v15 c1_i32_632
  let v680 : BitVec 32 := Scalar.addi c0_i32_633 v679
  v680.toNat
def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c384_i32_18 : BitVec 32 := 384#32
  let v25 : BitVec 32 := Scalar.muli v8 c384_i32_18
  let c256_i32_645 : BitVec 32 := 256#32
  ![v25.toNat, 256]
def k0_dev30 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_12 : BitVec 32 := 2#32
  let v18 : BitVec 32 := Scalar.xori v2 c2_i32_12
  let c1_i32_643 : BitVec 32 := 1#32
  let v693 : BitVec 32 := Scalar.muli v18 c1_i32_643
  let v694 : BitVec 32 := Scalar.addi c0_i32_644 v693
  v694.toNat
def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v7 : BitVec 32 := Scalar.shrsi v2 c1_i32_3
  let c1_i32_4 : BitVec 32 := 1#32
  let v8 : BitVec 32 := Scalar.andi v7 c1_i32_4
  let c384_i32_18 : BitVec 32 := 384#32
  let v25 : BitVec 32 := Scalar.muli v8 c384_i32_18
  let c384_i32_656 : BitVec 32 := 384#32
  ![v25.toNat, 384]
def k0_dev31 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_12 : BitVec 32 := 2#32
  let v18 : BitVec 32 := Scalar.xori v2 c2_i32_12
  let c1_i32_654 : BitVec 32 := 1#32
  let v707 : BitVec 32 := Scalar.muli v18 c1_i32_654
  let v708 : BitVec 32 := Scalar.addi c0_i32_655 v707
  v708.toNat
def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_6 : BitVec 32 := 2#32
  let v11 : BitVec 32 := Scalar.shrsi v2 c2_i32_6
  let c1_i32_7 : BitVec 32 := 1#32
  let v12 : BitVec 32 := Scalar.andi v11 c1_i32_7
  let c384_i32_19 : BitVec 32 := 384#32
  let v26 : BitVec 32 := Scalar.muli v12 c384_i32_19
  let c512_i32_667 : BitVec 32 := 512#32
  ![v26.toNat, 512]
def k0_dev32 (d0 : Dev nD) : Nat :=
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v21 : BitVec 32 := Scalar.xori v2 c4_i32_15
  let c1_i32_665 : BitVec 32 := 1#32
  let v721 : BitVec 32 := Scalar.muli v21 c1_i32_665
  let v722 : BitVec 32 := Scalar.addi c0_i32_666 v721
  v722.toNat
def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_6 : BitVec 32 := 2#32
  let v11 : BitVec 32 := Scalar.shrsi v2 c2_i32_6
  let c1_i32_7 : BitVec 32 := 1#32
  let v12 : BitVec 32 := Scalar.andi v11 c1_i32_7
  let c384_i32_19 : BitVec 32 := 384#32
  let v26 : BitVec 32 := Scalar.muli v12 c384_i32_19
  let c640_i32_678 : BitVec 32 := 640#32
  ![v26.toNat, 640]
def k0_dev33 (d0 : Dev nD) : Nat :=
  let c0_i32_677 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_15 : BitVec 32 := 4#32
  let v21 : BitVec 32 := Scalar.xori v2 c4_i32_15
  let c1_i32_676 : BitVec 32 := 1#32
  let v735 : BitVec 32 := Scalar.muli v21 c1_i32_676
  let v736 : BitVec 32 := Scalar.addi c0_i32_677 v735
  v736.toNat
abbrev stage0_0 : Fin 1 → Memref sig .tc .vmem S768x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S768x3072 : Shape := ⟨2, ![768, 3072]⟩
abbrev S3072x768 : Shape := ⟨2, ![3072, 768]⟩
abbrev S768x768 : Shape := ⟨2, ![768, 768]⟩

abbrev nBuf : Space → Nat
  | .hbm => 4
  | .vmem => 0
  | .smem => 0
  | _ => 0

abbrev bufTy : (tb : Table) → Fin (tcTables nBuf tb) → BufTy
  | .hbm, ⟨0, _⟩ => ⟨S768x3072, .bf16⟩
  | .hbm, ⟨1, _⟩ => ⟨S3072x768, .bf16⟩
  | .hbm, ⟨2, _⟩ => ⟨S768x768, .f32⟩
  | .hbm, ⟨3, _⟩ => ⟨S768x768, .bf16⟩
  | _, _ => ⟨S768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KernelIdeal.Geom.lean ====
/-
# The all-reduce's geometry: axes, partners, blocks

Eight devices on a three-dimensional cube: device `c` and the axis `b` give the neighbour `flip b c` (bit `b` of `c`
flipped). The 768 columns are cut in six lanes of 128; lane `li` walks the axes in the order `li/2, li/2+1, li/2+2`
(mod 3), halving the rows it still sums, and walks the first two back to gather. This module holds the axis of each
transfer, its partner, the device that finally owns each quarter of a lane, the element sets the transfers move, and
the closed forms of the offsets and devices the kernel computes from its device id.
-/
module

public import proofs.«01_k».proof.Proof.Gen.KernelIdeal
public import proofs.«01_k».proof.Proof.Gen.KernelIdeal.Skeleton
public import Idealize.ShloMosaic.Lib.ValueIdxCore
public import Idealize.ShloMosaic.Lib.Pipeline.Value
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.Sem

/-! ## Axes, bits, partners -/

/-- The neighbour of `c` across axis `b`. -/
def flip (b : Fin 3) (c : Dev nD) : Dev nD := ⟨(c.val ^^^ 2 ^ b.val) % 8, Nat.mod_lt _ (by decide)⟩

/-- The coordinate of `c` on axis `b`. -/
def bit (b : Fin 3) (c : Dev nD) : Fin 2 := ⟨c.val / 2 ^ b.val % 2, Nat.mod_lt _ (by decide)⟩

/-- The column third (the printed loop's `j`) lane `li` lies in. -/
def third (li : Fin 6) : Fin 3 := ⟨li.val / 2, by omega⟩

/-- Which half of its third lane `li` is. -/
def side (li : Fin 6) : Fin 2 := ⟨li.val % 2, Nat.mod_lt _ (by decide)⟩

/-- The place in a lane's axis order that round `r` uses: three rounds forth, two back. -/
def back : Fin 5 → Fin 3 := ![0, 1, 2, 1, 0]

/-- The axis of lane `li` at place `a` of its order. -/
def axis (a : Fin 3) (li : Fin 6) : Fin 3 := ⟨(li.val / 2 + a.val) % 3, Nat.mod_lt _ (by decide)⟩

/-- The device lane `li` exchanges with in round `r`. -/
def par (r : Fin 5) (li : Fin 6) (c : Dev nD) : Dev nD := flip (axis (back r) li) c

/-- The half of the rows device `c` keeps of lane `li`: its coordinate on the lane's first axis. -/
def hb (li : Fin 6) (c : Dev nD) : Fin 2 := bit (axis 0 li) c

/-- The quarter, within that half, it keeps next: its coordinate on the lane's second axis. -/
def qb (li : Fin 6) (c : Dev nD) : Fin 2 := bit (axis 1 li) c

/-- The other of two. -/
def opp (b : Fin 2) : Fin 2 := ⟨1 - b.val, by omega⟩

theorem flip_flip (b : Fin 3) (c : Dev nD) : flip b (flip b c) = c := by revert b c; decide
theorem par_par (r : Fin 5) (li : Fin 6) (c : Dev nD) : par r li (par r li c) = c := flip_flip _ _

/-- Flipping an axis is a bijection of the devices. -/
def flipE (b : Fin 3) : Dev nD ≃ Dev nD := ⟨flip b, flip b, flip_flip b, flip_flip b⟩
/-- So is going to the partner of a transfer. -/
def parE (r : Fin 5) (li : Fin 6) : Dev nD ≃ Dev nD := ⟨par r li, par r li, par_par r li, par_par r li⟩

theorem hb_par0 (li : Fin 6) (c : Dev nD) : opp (hb li (par 0 li c)) = hb li c := by revert li c; decide
theorem hb_par0' (li : Fin 6) (c : Dev nD) : hb li (par 0 li c) = opp (hb li c) := by revert li c; decide
theorem hb_par1 (li : Fin 6) (c : Dev nD) : hb li (par 1 li c) = hb li c := by revert li c; decide
theorem qb_par1 (li : Fin 6) (c : Dev nD) : opp (qb li (par 1 li c)) = qb li c := by revert li c; decide
theorem qb_par1' (li : Fin 6) (c : Dev nD) : qb li (par 1 li c) = opp (qb li c) := by revert li c; decide
theorem hb_par2 (li : Fin 6) (c : Dev nD) : hb li (par 2 li c) = hb li c := by revert li c; decide
theorem qb_par2 (li : Fin 6) (c : Dev nD) : qb li (par 2 li c) = qb li c := by revert li c; decide
theorem hb_par3 (li : Fin 6) (c : Dev nD) : hb li (par 3 li c) = hb li c := by revert li c; decide
theorem qb_par3 (li : Fin 6) (c : Dev nD) : qb li (par 3 li c) = opp (qb li c) := by revert li c; decide
theorem qb_par3' (li : Fin 6) (c : Dev nD) : opp (qb li (par 3 li c)) = qb li c := by revert li c; decide
theorem hb_par4' (li : Fin 6) (c : Dev nD) : opp (hb li (par 4 li c)) = hb li c := by revert li c; decide
theorem hb_par4 (li : Fin 6) (c : Dev nD) : hb li (par 4 li c) = opp (hb li c) := by revert li c; decide

/-- The device whose sum quarter `q` of lane `li` on device `c` ends up holding: it agrees with `c` on the lane's
    third axis and its coordinates on the first two spell `q`. -/
def owner (c : Dev nD) (li : Fin 6) (q : ℕ) : Dev nD :=
  let c₁ := if (hb li c).val = q / 2 then c else flip (axis 0 li) c
  if (qb li c₁).val = q % 2 then c₁ else flip (axis 1 li) c₁

/-- The quarter a device sums itself. -/
def quarter (li : Fin 6) (c : Dev nD) : ℕ := 2 * (hb li c).val + (qb li c).val

theorem owner_self (li : Fin 6) (c : Dev nD) : owner c li (quarter li c) = c := by revert li c; decide
theorem owner_par3 (li : Fin 6) (c : Dev nD) (q : Fin 4) : owner (par 3 li c) li q.val = owner c li q.val := by
  revert li c q; decide
theorem owner_par4 (li : Fin 6) (c : Dev nD) (q : Fin 4) : owner (par 4 li c) li q.val = owner c li q.val := by
  revert li c q; decide
theorem quarter_owner (li : Fin 6) (c : Dev nD) (q : Fin 4) : quarter li (owner c li q.val) = q.val := by
  revert li c q; decide

/-! ## Rows -/

/-- Row `r` of quarter `b` of a half. -/
def rowQ (b : Fin 2) (r : Fin 192) : Fin 384 := ⟨b.val * 192 + r.val, by omega⟩
/-- Row `r` of half `b` of the whole. -/
def rowH (b : Fin 2) (r : Fin 384) : Fin 768 := ⟨b.val * 384 + r.val, by omega⟩
/-- Column `x` of the side `s` of a third. -/
def colS (s : Fin 2) (x : Fin 128) : Fin 256 := ⟨s.val * 128 + x.val, by omega⟩
/-- Column `x` of third `j`. -/
def colT (j : Fin 3) (x : Fin 256) : Fin 768 := ⟨j.val * 256 + x.val, by omega⟩

/-! ## Element sets -/

/-- Lane `li` of a six-lane buffer of 384 rows. -/
def lane4 (li : Fin 6) : Finset S6x384x128.Idx := Finset.univ.filter fun i => (i 0).val = li.val
/-- Its rows of quarter `b`. -/
def laneQ (li : Fin 6) (b : Fin 2) : Finset S6x384x128.Idx :=
  Finset.univ.filter fun i => (i 0).val = li.val ∧ (i 1).val / 192 = b.val
/-- Lane `li` of a six-lane buffer of 192 rows. -/
def lane2 (li : Fin 6) : Finset S6x192x128.Idx := Finset.univ.filter fun i => (i 0).val = li.val
/-- The lane's columns of the kept-rows buffer. -/
def laneK (li : Fin 6) : Finset S3x384x256.Idx :=
  Finset.univ.filter fun i => (i 0).val = li.val / 2 ∧ (i 2).val / 128 = li.val % 2
/-- Third `j` of it. -/
def thirdK (j : Fin 3) : Finset S3x384x256.Idx := Finset.univ.filter fun i => (i 0).val = j.val
/-- Lane `li`'s columns of the result. -/
def outLane (li : Fin 6) : Finset S768x768.Idx := Finset.univ.filter fun i => (i 1).val / 128 = li.val
/-- Their rows of half `h`. -/
def outHalf (li : Fin 6) (h : Fin 2) : Finset S768x768.Idx :=
  Finset.univ.filter fun i => (i 1).val / 128 = li.val ∧ (i 0).val / 384 = h.val
/-- Their rows of quarter `q` of half `h`. -/
def outQ (li : Fin 6) (h q : Fin 2) : Finset S768x768.Idx :=
  Finset.univ.filter fun i => (i 1).val / 128 = li.val ∧ (i 0).val / 192 = 2 * h.val + q.val

theorem mem_lane4 {li : Fin 6} {i : S6x384x128.Idx} : i ∈ lane4 li ↔ (i 0).val = li.val := by simp [lane4]
theorem mem_laneQ {li : Fin 6} {b : Fin 2} {i : S6x384x128.Idx} :
    i ∈ laneQ li b ↔ (i 0).val = li.val ∧ (i 1).val / 192 = b.val := by simp [laneQ]
theorem mem_lane2 {li : Fin 6} {i : S6x192x128.Idx} : i ∈ lane2 li ↔ (i 0).val = li.val := by simp [lane2]
theorem mem_laneK {li : Fin 6} {i : S3x384x256.Idx} :
    i ∈ laneK li ↔ (i 0).val = li.val / 2 ∧ (i 2).val / 128 = li.val % 2 := by simp [laneK]
theorem mem_thirdK {j : Fin 3} {i : S3x384x256.Idx} : i ∈ thirdK j ↔ (i 0).val = j.val := by simp [thirdK]
theorem mem_outLane {li : Fin 6} {i : S768x768.Idx} : i ∈ outLane li ↔ (i 1).val / 128 = li.val := by simp [outLane]
theorem mem_outHalf {li : Fin 6} {h : Fin 2} {i : S768x768.Idx} :
    i ∈ outHalf li h ↔ (i 1).val / 128 = li.val ∧ (i 0).val / 384 = h.val := by simp [outHalf]
theorem mem_outQ {li : Fin 6} {h q : Fin 2} {i : S768x768.Idx} :
    i ∈ outQ li h q ↔ (i 1).val / 128 = li.val ∧ (i 0).val / 192 = 2 * h.val + q.val := by simp [outQ]
theorem opp_val (b : Fin 2) : (opp b).val = 1 - b.val := rfl

theorem laneQ_union (li : Fin 6) (b : Fin 2) : laneQ li b ∪ laneQ li (opp b) = lane4 li := by
  ext i
  have h1 : (i 1).val < 384 := (i 1).isLt
  simp only [Finset.mem_union, mem_laneQ, mem_lane4, opp_val]
  omega
theorem laneQ_disj (li : Fin 6) (b : Fin 2) : Disjoint (laneQ li b) (laneQ li (opp b)) := by
  rw [Finset.disjoint_left]; intro i
  simp only [mem_laneQ, opp_val]
  omega
theorem outQ_union (li : Fin 6) (h q : Fin 2) : outQ li h q ∪ outQ li h (opp q) = outHalf li h := by
  ext i
  have h1 : (i 0).val < 768 := (i 0).isLt
  simp only [Finset.mem_union, mem_outQ, mem_outHalf, opp_val]
  omega
theorem outQ_disj (li : Fin 6) (h q : Fin 2) : Disjoint (outQ li h q) (outQ li h (opp q)) := by
  rw [Finset.disjoint_left]; intro i
  simp only [mem_outQ, opp_val]
  omega
theorem outHalf_union (li : Fin 6) (h : Fin 2) : outHalf li h ∪ outHalf li (opp h) = outLane li := by
  ext i
  have h1 : (i 0).val < 768 := (i 0).isLt
  simp only [Finset.mem_union, mem_outHalf, mem_outLane, opp_val]
  omega
theorem outHalf_disj (li : Fin 6) (h : Fin 2) : Disjoint (outHalf li h) (outHalf li (opp h)) := by
  rw [Finset.disjoint_left]; intro i
  simp only [mem_outHalf, opp_val]
  omega

theorem lane4_cover : Finset.univ.biUnion lane4 = Finset.univ := by
  ext i
  have h0 := (i 0).isLt
  simp only [Finset.mem_biUnion, Finset.mem_univ, true_and, iff_true, lane4, Finset.mem_filter]
  exact ⟨⟨(i 0).val, h0⟩, rfl⟩
theorem lane2_cover : Finset.univ.biUnion lane2 = Finset.univ := by
  ext i
  have h0 := (i 0).isLt
  simp only [Finset.mem_biUnion, Finset.mem_univ, true_and, iff_true, lane2, Finset.mem_filter]
  exact ⟨⟨(i 0).val, h0⟩, rfl⟩
theorem laneK_cover : Finset.univ.biUnion laneK = Finset.univ := by
  ext i
  have h0 := (i 0).isLt
  have h2 := (i 2).isLt
  simp [S3x384x256] at h0 h2
  simp only [Finset.mem_biUnion, Finset.mem_univ, true_and, iff_true, laneK, Finset.mem_filter]
  refine ⟨⟨2 * (i 0).val + (i 2).val / 128, by omega⟩, ?_, ?_⟩ <;> simp <;> omega
theorem thirdK_cover : Finset.univ.biUnion thirdK = Finset.univ := by
  ext i
  have h0 := (i 0).isLt
  simp only [Finset.mem_biUnion, Finset.mem_univ, true_and, iff_true, thirdK, Finset.mem_filter]
  exact ⟨⟨(i 0).val, h0⟩, rfl⟩
theorem outLane_cover : Finset.univ.biUnion outLane = Finset.univ := by
  ext i
  have h1 := (i 1).isLt
  simp [S768x768] at h1
  simp only [Finset.mem_biUnion, Finset.mem_univ, true_and, iff_true, outLane, Finset.mem_filter]
  exact ⟨⟨(i 1).val / 128, by omega⟩, rfl⟩

/-- Sets told apart by the value of a function are disjoint. -/
theorem disj_of_key {α : Type} [Fintype α] [DecidableEq α] {n : ℕ} (K : Fin n → Finset α) (key : α → ℕ)
    (h : ∀ t, ∀ i ∈ K t, key i = t.val) : ∀ t ∈ (Finset.univ : Finset (Fin n)), ∀ t' ∈ (Finset.univ : Finset (Fin n)),
      t ≠ t' → Disjoint (K t) (K t') := by
  intro t _ t' _ hne
  rw [Finset.disjoint_left]
  intro i hi hi'
  exact hne (Fin.ext ((h t i hi).symm.trans (h t' i hi')))

theorem lane4_disj : ∀ t ∈ (Finset.univ : Finset (Fin 6)), ∀ t' ∈ (Finset.univ : Finset (Fin 6)), t ≠ t' → Disjoint (lane4 t) (lane4 t') :=
  disj_of_key lane4 (fun i => (i 0).val) fun t i hi => (Finset.mem_filter.mp hi).2
theorem lane2_disj : ∀ t ∈ (Finset.univ : Finset (Fin 6)), ∀ t' ∈ (Finset.univ : Finset (Fin 6)), t ≠ t' → Disjoint (lane2 t) (lane2 t') :=
  disj_of_key lane2 (fun i => (i 0).val) fun t i hi => (Finset.mem_filter.mp hi).2
theorem laneK_disj : ∀ t ∈ (Finset.univ : Finset (Fin 6)), ∀ t' ∈ (Finset.univ : Finset (Fin 6)), t ≠ t' → Disjoint (laneK t) (laneK t') :=
  disj_of_key laneK (fun i => 2 * (i 0).val + (i 2).val / 128) fun t i hi => by
    have := (Finset.mem_filter.mp hi).2
    omega
theorem thirdK_disj : ∀ t ∈ (Finset.univ : Finset (Fin 3)), ∀ t' ∈ (Finset.univ : Finset (Fin 3)), t ≠ t' → Disjoint (thirdK t) (thirdK t') :=
  disj_of_key thirdK (fun i => (i 0).val) fun t i hi => (Finset.mem_filter.mp hi).2
theorem outLane_disj : ∀ t ∈ (Finset.univ : Finset (Fin 6)), ∀ t' ∈ (Finset.univ : Finset (Fin 6)), t ≠ t' → Disjoint (outLane t) (outLane t') :=
  disj_of_key outLane (fun i => (i 1).val / 128) fun t i hi => (Finset.mem_filter.mp hi).2

/-! ## What the kernel computes from its device id -/

theorem off1_eq (c : Dev nD) (j : Fin 3) : k0_off1 c (BitVec.ofNat 32 j.val) = ![(opp (bit j c)).val * 384, 0] := by
  revert c j; decide +kernel
theorem off2_eq (c : Dev nD) (j : Fin 3) : k0_off2 c (BitVec.ofNat 32 j.val) = ![(bit j c).val * 384, 0] := by
  revert c j; decide +kernel
theorem off3_eq (c : Dev nD) : k0_off3 c = ![0, (opp (qb 0 c)).val * 192, 0] := by revert c; decide +kernel
theorem off4_eq (c : Dev nD) : k0_off4 c = ![1, (opp (qb 1 c)).val * 192, 0] := by revert c; decide +kernel
theorem off5_eq (c : Dev nD) : k0_off5 c = ![2, (opp (qb 2 c)).val * 192, 0] := by revert c; decide +kernel
theorem off6_eq (c : Dev nD) : k0_off6 c = ![3, (opp (qb 3 c)).val * 192, 0] := by revert c; decide +kernel
theorem off7_eq (c : Dev nD) : k0_off7 c = ![4, (opp (qb 4 c)).val * 192, 0] := by revert c; decide +kernel
theorem off8_eq (c : Dev nD) : k0_off8 c = ![5, (opp (qb 5 c)).val * 192, 0] := by revert c; decide +kernel
theorem off9_eq (c : Dev nD) : k0_off9 c = ![0, (qb 0 c).val * 192, 0] := by revert c; decide +kernel
theorem off10_eq (c : Dev nD) : k0_off10 c = ![1, (qb 1 c).val * 192, 0] := by revert c; decide +kernel
theorem off11_eq (c : Dev nD) : k0_off11 c = ![2, (qb 2 c).val * 192, 0] := by revert c; decide +kernel
theorem off12_eq (c : Dev nD) : k0_off12 c = ![3, (qb 3 c).val * 192, 0] := by revert c; decide +kernel
theorem off13_eq (c : Dev nD) : k0_off13 c = ![4, (qb 4 c).val * 192, 0] := by revert c; decide +kernel
theorem off14_eq (c : Dev nD) : k0_off14 c = ![5, (qb 5 c).val * 192, 0] := by revert c; decide +kernel
theorem off15_eq (c : Dev nD) : k0_off15 c = ![quarter 0 c * 192, 0] := by revert c; decide +kernel
theorem off16_eq (c : Dev nD) : k0_off16 c = ![quarter 0 c * 192, 0] := by revert c; decide +kernel
theorem off17_eq (c : Dev nD) : k0_off17 c = ![quarter 1 c * 192, 128] := by revert c; decide +kernel
theorem off18_eq (c : Dev nD) : k0_off18 c = ![quarter 1 c * 192, 128] := by revert c; decide +kernel
theorem off19_eq (c : Dev nD) : k0_off19 c = ![quarter 2 c * 192, 256] := by revert c; decide +kernel
theorem off20_eq (c : Dev nD) : k0_off20 c = ![quarter 2 c * 192, 256] := by revert c; decide +kernel
theorem off21_eq (c : Dev nD) : k0_off21 c = ![quarter 3 c * 192, 384] := by revert c; decide +kernel
theorem off22_eq (c : Dev nD) : k0_off22 c = ![quarter 3 c * 192, 384] := by revert c; decide +kernel
theorem off23_eq (c : Dev nD) : k0_off23 c = ![quarter 4 c * 192, 512] := by revert c; decide +kernel
theorem off24_eq (c : Dev nD) : k0_off24 c = ![quarter 4 c * 192, 512] := by revert c; decide +kernel
theorem off25_eq (c : Dev nD) : k0_off25 c = ![quarter 5 c * 192, 640] := by revert c; decide +kernel
theorem off26_eq (c : Dev nD) : k0_off26 c = ![quarter 5 c * 192, 640] := by revert c; decide +kernel
theorem off27_eq (c : Dev nD) : k0_off27 c = ![(hb 0 c).val * 384, 0] := by revert c; decide +kernel
theorem off28_eq (c : Dev nD) : k0_off28 c = ![(hb 1 c).val * 384, 128] := by revert c; decide +kernel
theorem off29_eq (c : Dev nD) : k0_off29 c = ![(hb 2 c).val * 384, 256] := by revert c; decide +kernel
theorem off30_eq (c : Dev nD) : k0_off30 c = ![(hb 3 c).val * 384, 384] := by revert c; decide +kernel
theorem off31_eq (c : Dev nD) : k0_off31 c = ![(hb 4 c).val * 384, 512] := by revert c; decide +kernel
theorem off32_eq (c : Dev nD) : k0_off32 c = ![(hb 5 c).val * 384, 640] := by revert c; decide +kernel

theorem dev1_eq (c : Dev nD) : (⟨k0_dev1 c, k0_dev1_lt c⟩ : Dev nD) = flip 0 c := by revert c; decide +kernel
theorem dev2_eq (c : Dev nD) : (⟨k0_dev2 c, k0_dev2_lt c⟩ : Dev nD) = flip 1 c := by revert c; decide +kernel
theorem dev3_eq (c : Dev nD) : (⟨k0_dev3 c, k0_dev3_lt c⟩ : Dev nD) = flip 2 c := by revert c; decide +kernel
theorem dev4_eq (c : Dev nD) : (⟨k0_dev4 c, k0_dev4_lt c⟩ : Dev nD) = par 0 0 c := by revert c; decide +kernel
theorem dev5_eq (c : Dev nD) : (⟨k0_dev5 c, k0_dev5_lt c⟩ : Dev nD) = par 0 1 c := by revert c; decide +kernel
theorem dev6_eq (c : Dev nD) : (⟨k0_dev6 c, k0_dev6_lt c⟩ : Dev nD) = par 0 2 c := by revert c; decide +kernel
theorem dev7_eq (c : Dev nD) : (⟨k0_dev7 c, k0_dev7_lt c⟩ : Dev nD) = par 0 3 c := by revert c; decide +kernel
theorem dev8_eq (c : Dev nD) : (⟨k0_dev8 c, k0_dev8_lt c⟩ : Dev nD) = par 0 4 c := by revert c; decide +kernel
theorem dev9_eq (c : Dev nD) : (⟨k0_dev9 c, k0_dev9_lt c⟩ : Dev nD) = par 0 5 c := by revert c; decide +kernel
theorem dev10_eq (c : Dev nD) : (⟨k0_dev10 c, k0_dev10_lt c⟩ : Dev nD) = par 1 0 c := by revert c; decide +kernel
theorem dev11_eq (c : Dev nD) : (⟨k0_dev11 c, k0_dev11_lt c⟩ : Dev nD) = par 1 1 c := by revert c; decide +kernel
theorem dev12_eq (c : Dev nD) : (⟨k0_dev12 c, k0_dev12_lt c⟩ : Dev nD) = par 1 2 c := by revert c; decide +kernel
theorem dev13_eq (c : Dev nD) : (⟨k0_dev13 c, k0_dev13_lt c⟩ : Dev nD) = par 1 3 c := by revert c; decide +kernel
theorem dev14_eq (c : Dev nD) : (⟨k0_dev14 c, k0_dev14_lt c⟩ : Dev nD) = par 1 4 c := by revert c; decide +kernel
theorem dev15_eq (c : Dev nD) : (⟨k0_dev15 c, k0_dev15_lt c⟩ : Dev nD) = par 1 5 c := by revert c; decide +kernel
theorem dev16_eq (c : Dev nD) : (⟨k0_dev16 c, k0_dev16_lt c⟩ : Dev nD) = par 2 0 c := by revert c; decide +kernel
theorem dev17_eq (c : Dev nD) : (⟨k0_dev17 c, k0_dev17_lt c⟩ : Dev nD) = par 2 1 c := by revert c; decide +kernel
theorem dev18_eq (c : Dev nD) : (⟨k0_dev18 c, k0_dev18_lt c⟩ : Dev nD) = par 2 2 c := by revert c; decide +kernel
theorem dev19_eq (c : Dev nD) : (⟨k0_dev19 c, k0_dev19_lt c⟩ : Dev nD) = par 2 3 c := by revert c; decide +kernel
theorem dev20_eq (c : Dev nD) : (⟨k0_dev20 c, k0_dev20_lt c⟩ : Dev nD) = par 2 4 c := by revert c; decide +kernel
theorem dev21_eq (c : Dev nD) : (⟨k0_dev21 c, k0_dev21_lt c⟩ : Dev nD) = par 2 5 c := by revert c; decide +kernel
theorem dev22_eq (c : Dev nD) : (⟨k0_dev22 c, k0_dev22_lt c⟩ : Dev nD) = par 3 0 c := by revert c; decide +kernel
theorem dev23_eq (c : Dev nD) : (⟨k0_dev23 c, k0_dev23_lt c⟩ : Dev nD) = par 3 1 c := by revert c; decide +kernel
theorem dev24_eq (c : Dev nD) : (⟨k0_dev24 c, k0_dev24_lt c⟩ : Dev nD) = par 3 2 c := by revert c; decide +kernel
theorem dev25_eq (c : Dev nD) : (⟨k0_dev25 c, k0_dev25_lt c⟩ : Dev nD) = par 3 3 c := by revert c; decide +kernel
theorem dev26_eq (c : Dev nD) : (⟨k0_dev26 c, k0_dev26_lt c⟩ : Dev nD) = par 3 4 c := by revert c; decide +kernel
theorem dev27_eq (c : Dev nD) : (⟨k0_dev27 c, k0_dev27_lt c⟩ : Dev nD) = par 3 5 c := by revert c; decide +kernel
theorem dev28_eq (c : Dev nD) : (⟨k0_dev28 c, k0_dev28_lt c⟩ : Dev nD) = par 4 0 c := by revert c; decide +kernel
theorem dev29_eq (c : Dev nD) : (⟨k0_dev29 c, k0_dev29_lt c⟩ : Dev nD) = par 4 1 c := by revert c; decide +kernel
theorem dev30_eq (c : Dev nD) : (⟨k0_dev30 c, k0_dev30_lt c⟩ : Dev nD) = par 4 2 c := by revert c; decide +kernel
theorem dev31_eq (c : Dev nD) : (⟨k0_dev31 c, k0_dev31_lt c⟩ : Dev nD) = par 4 3 c := by revert c; decide +kernel
theorem dev32_eq (c : Dev nD) : (⟨k0_dev32 c, k0_dev32_lt c⟩ : Dev nD) = par 4 4 c := by revert c; decide +kernel
theorem dev33_eq (c : Dev nD) : (⟨k0_dev33 c, k0_dev33_lt c⟩ : Dev nD) = par 4 5 c := by revert c; decide +kernel

end Cert.KernelIdealProof

end
-- ==== Proof.KernelIdeal.Contents.lean ====
/-
# What each buffer holds

The values of the all-reduce, element by element: a device's partial product (`part`), and its sums after one, two and
three exchanges (`S1`, `S2`, `S3`), each a sum of what the device itself holds and what its partner across the next
axis holds. From them, for each buffer, one function giving the contents of every element that is ever written in it;
then the reading and writing lemmas that say so through the views the kernel uses.
-/
module

public import proofs.«01_k».proof.Proof.KernelIdeal.Geom

@[expose] public section

noncomputable section

namespace Cert.KernelIdealProof

open Cert.KernelIdeal Cert.KernelIdeal.Gen

open Idealize.ShloMosaic
open Idealize.ShloMosaic.TcCoe
open Idealize.SL Idealize.SL.Sem

variable {F : FTy → Type} [FloatOps F]

/-- An index of a rank-two shape from its coordinates. -/
abbrev at2 {n0 n1 : ℕ} (a : Fin n0) (b : Fin n1) : (⟨2, ![n0, n1]⟩ : Shape).Idx := ValueIdx.ix2 a b
/-- An index of a rank-three shape from its coordinates. -/
abbrev at3 {n0 n1 n2 : ℕ} (a : Fin n0) (b : Fin n1) (c : Fin n2) : (⟨3, ![n0, n1, n2]⟩ : Shape).Idx :=
  ValueIdx.ix3 a b c

section Values

variable (A : Dev nD → Vec F S768x384 .bf16) (B : Dev nD → Vec F S384x768 .bf16)

/-- Device `c`'s rows of half `h` of its block of the left operand. -/
def rowsOf (c : Dev nD) (h : Fin 2) : Vec F S384x384 .bf16 := fun x => A c (at2 (rowH h (x 0)) (x 1))
/-- Device `c`'s columns of third `j` of its block of the right operand. -/
def colsOf (c : Dev nD) (j : Fin 3) : Vec F S384x256 .bf16 := fun x => B c (at2 (x 0) (colT j (x 1)))

/-- Device `c`'s partial product over its own 384 of the summed axis: half `h` of the rows, third `j` of the columns. -/
def part (c : Dev nD) (j : Fin 3) (h : Fin 2) : FVec F S384x256 .bf16 := k0_pay7 (rowsOf A c h) (colsOf B c j)

/-- Its element at row `r` of half `h`, column `x` of lane `li`. -/
def S0 (c : Dev nD) (li : Fin 6) (h : Fin 2) (r : Fin 384) (x : Fin 128) : F .bf16 :=
  part A B c (third li) h (at2 r (colS (side li) x))

/-- The sum of two devices: row `r` of the half device `c` keeps. -/
def S1 (c : Dev nD) (li : Fin 6) (r : Fin 384) (x : Fin 128) : F .bf16 :=
  FloatOps.addf (S0 A B c li (hb li c) r x) (S0 A B (par 0 li c) li (hb li c) r x)

/-- The sum of four: row `r` of the quarter device `c` keeps. -/
def S2 (c : Dev nD) (li : Fin 6) (r : Fin 192) (x : Fin 128) : F .bf16 :=
  FloatOps.addf (S1 A B c li (rowQ (qb li c) r) x) (S1 A B (par 1 li c) li (rowQ (qb li c) r) x)

/-- The sum of all eight. -/
def S3 (c : Dev nD) (li : Fin 6) (r : Fin 192) (x : Fin 128) : F .bf16 :=
  FloatOps.addf (S2 A B c li r x) (S2 A B (par 2 li c) li r x)

/-! ### The buffers -/

/-- The partial products sent away. -/
def sbG (c : Dev nD) : Vec F S6x384x128 .bf16 := fun i => S0 A B c (i 0) (opp (hb (i 0) c)) (i 1) (i 2)
/-- The partial products kept. -/
def kG (c : Dev nD) : Vec F S3x384x256 .bf16 := fun i => part A B c (i 0) (bit (i 0) c) (at2 (i 1) (i 2))
/-- Those received. -/
def rb0G (c : Dev nD) : Vec F S6x384x128 .bf16 := fun i => S0 A B (par 0 (i 0) c) (i 0) (hb (i 0) c) (i 1) (i 2)
/-- The sums of two. -/
def ab0G (c : Dev nD) : Vec F S6x384x128 .bf16 := fun i => S1 A B c (i 0) (i 1) (i 2)
/-- Those received. -/
def rb1G (c : Dev nD) : Vec F S6x192x128 .bf16 := fun i => S1 A B (par 1 (i 0) c) (i 0) (rowQ (qb (i 0) c) (i 1)) (i 2)
/-- The sums of four. -/
def ab1G (c : Dev nD) : Vec F S6x192x128 .bf16 := fun i => S2 A B c (i 0) (i 1) (i 2)
/-- Those received. -/
def rb2G (c : Dev nD) : Vec F S6x192x128 .bf16 := fun i => S2 A B (par 2 (i 0) c) (i 0) (i 1) (i 2)

/-- The lane of a column. -/
def laneOf (x : Fin 768) : Fin 6 := ⟨x.val / 128, by omega⟩
/-- A row within its quarter. -/
def rowIn (r : Fin 768) : Fin 192 := ⟨r.val % 192, Nat.mod_lt _ (by decide)⟩
/-- A column within its lane. -/
def colIn (x : Fin 768) : Fin 128 := ⟨x.val % 128, Nat.mod_lt _ (by decide)⟩

/-- The result: each quarter of each lane is the sum of all eight as its owner formed it. -/
def outG (c : Dev nD) : Vec F S768x768 .bf16 := fun i =>
  S3 A B (owner c (laneOf (i 1)) ((i 0).val / 192)) (laneOf (i 1)) (rowIn (i 0)) (colIn (i 1))

theorem laneOf_eq {li : Fin 6} {x : Fin 768} (h : x.val / 128 = li.val) : laneOf x = li := Fin.ext h

/-- A device and its partners of the two gathering rounds hold the same result on the lane. -/
theorem outG_par3 (li : Fin 6) (c : Dev nD) (i : S768x768.Idx) (h : (i 1).val / 128 = li.val) :
    outG A B (par 3 li c) i = outG A B c i := by
  have h0 : (i 0).val < 768 := (i 0).isLt
  unfold outG
  rw [laneOf_eq h, show (i 0).val / 192 = (⟨(i 0).val / 192, by omega⟩ : Fin 4).val from rfl, owner_par3]
theorem outG_par4 (li : Fin 6) (c : Dev nD) (i : S768x768.Idx) (h : (i 1).val / 128 = li.val) :
    outG A B (par 4 li c) i = outG A B c i := by
  have h0 : (i 0).val < 768 := (i 0).isLt
  unfold outG
  rw [laneOf_eq h, show (i 0).val / 192 = (⟨(i 0).val / 192, by omega⟩ : Fin 4).val from rfl, owner_par4]

end Values

/-! ## The stored values, element by element -/

theorem pay16_apply (v w : Vec F S1x384x128 .bf16) (y : S1x384x128.Idx) : k0_pay16 v w y = FloatOps.addf (v y) (w y) := by
  show FloatOps.addf (shapeCast S1x384x128 (shapeCast S384x128 v _) _ y) (shapeCast S1x384x128 (shapeCast S384x128 w _) _ y) = _
  rw [shapeCast_shapeCast, shapeCast_shapeCast]
theorem pay24_apply (v w : Vec F S1x192x128 .bf16) (y : S1x192x128.Idx) :
    k0_pay23 (k0_pay22 v w) y = FloatOps.addf (v y) (w y) := by
  show FloatOps.addf (shapeCast S1x192x128 (shapeCast S192x128 v _) _ y) (shapeCast S1x192x128 (shapeCast S192x128 w _) _ y) = _
  rw [shapeCast_shapeCast, shapeCast_shapeCast]
theorem pay29_apply (v w : Vec F S1x192x128 .bf16) (y : S192x128.Idx) :
    k0_pay29 v w y = FloatOps.addf (v (Fin.cons ⟨0, Nat.one_pos⟩ y)) (w (Fin.cons ⟨0, Nat.one_pos⟩ y)) := by
  show FloatOps.addf (shapeCast S192x128 v _ y) (shapeCast S192x128 w _ y) = _
  rw [shapeCast_dropUnit_apply, shapeCast_dropUnit_apply]
theorem pay13_apply (v : Vec F S384x384 .bf16) (w : Vec F S384x256 .bf16) (y : S1x384x256.Idx) :
    k0_pay13 v w y = k0_pay7 v w (at2 (y 1) (y 2)) := by
  show shapeCast S1x384x256 (k0_pay7 v w) _ y = _
  rw [shapeCast_addUnit_apply]
  congr 1
  funext a
  match a with | ⟨0, _⟩ => rfl | ⟨1, _⟩ => rfl
theorem pay8_apply (v : Vec F S384x384 .bf16) (w : Vec F S384x256 .bf16) (y : S1x384x128.Idx) :
    k0_pay8 v w y = k0_pay7 v w (at2 (y 1) (colS 0 (y 2))) := by
  show shapeCast S1x384x128 (extractStridedSlice S384x128 ![0, 0] (k0_pay7 v w) _) _ y = _
  rw [shapeCast_addUnit_apply]
  show k0_pay7 v w _ = _
  congr 1
  funext a
  match a with
  | ⟨0, _⟩ => exact Fin.ext (by show 0 + (y 1).val = (y 1).val; omega)
  | ⟨1, _⟩ => exact Fin.ext (by show 0 + (y 2).val = 0 * 128 + (y 2).val; omega)
theorem pay9_apply (v : Vec F S384x384 .bf16) (w : Vec F S384x256 .bf16) (y : S1x384x128.Idx) :
    k0_pay9 v w y = k0_pay7 v w (at2 (y 1) (colS 1 (y 2))) := by
  show shapeCast S1x384x128 (extractStridedSlice S384x128 ![0, 128] (k0_pay7 v w) _) _ y = _
  rw [shapeCast_addUnit_apply]
  show k0_pay7 v w _ = _
  congr 1
  funext a
  match a with
  | ⟨0, _⟩ => exact Fin.ext (by show 0 + (y 1).val = (y 1).val; omega)
  | ⟨1, _⟩ => exact Fin.ext (by show 128 + (y 2).val = 1 * 128 + (y 2).val; omega)

/-! ## The rectangles' element sets -/

theorem set_lane4 (li : Fin 6) {o : Fin 3 → ℕ} (ho : o = ![li.val, 0, 0]) {inb} :
    (Rect.unit (s := S6x384x128) o S1x384x128.size inb).set = lane4 li := by
  subst ho; ext i
  have h1 : (i 1).val < 384 := (i 1).isLt
  have h2 : (i 2).val < 128 := (i 2).isLt
  simp only [Rect.mem_set_unit, mem_lane4, Fin.forall_fin_succ]
  simp [S1x384x128]
  omega
theorem set_laneQ (li : Fin 6) (b : Fin 2) {o : Fin 3 → ℕ} (ho : o = ![li.val, b.val * 192, 0]) {inb} :
    (Rect.unit (s := S6x384x128) o S1x192x128.size inb).set = laneQ li b := by
  subst ho; ext i
  have h2 : (i 2).val < 128 := (i 2).isLt
  simp only [Rect.mem_set_unit, mem_laneQ, Fin.forall_fin_succ]
  simp [S1x192x128]
  omega
theorem set_lane2 (li : Fin 6) {o : Fin 3 → ℕ} (ho : o = ![li.val, 0, 0]) {inb} :
    (Rect.unit (s := S6x192x128) o S1x192x128.size inb).set = lane2 li := by
  subst ho; ext i
  have h1 : (i 1).val < 192 := (i 1).isLt
  have h2 : (i 2).val < 128 := (i 2).isLt
  simp only [Rect.mem_set_unit, mem_lane2, Fin.forall_fin_succ]
  simp [S1x192x128]
  omega
theorem set_laneK (li : Fin 6) {o : Fin 3 → ℕ} (ho : o = ![li.val / 2, 0, 128 * (li.val % 2)]) {inb} :
    (Rect.unit (s := S3x384x256) o S1x384x128.size inb).set = laneK li := by
  subst ho; ext i
  have h1 : (i 1).val < 384 := (i 1).isLt
  have h2 : (i 2).val < 256 := (i 2).isLt
  simp only [Rect.mem_set_unit, mem_laneK, Fin.forall_fin_succ]
  simp [S1x384x128]
  omega
theorem set_thirdK (j : Fin 3) {o : Fin 3 → ℕ} (ho : o = ![j.val, 0, 0]) {inb} :
    (Rect.unit (s := S3x384x256) o S1x384x256.size inb).set = thirdK j := by
  subst ho; ext i
  have h1 : (i 1).val < 384 := (i 1).isLt
  have h2 : (i 2).val < 256 := (i 2).isLt
  simp only [Rect.mem_set_unit, mem_thirdK, Fin.forall_fin_succ]
  simp [S1x384x256]
  omega
theorem set_outHalf (li : Fin 6) (h : Fin 2) {o : Fin 2 → ℕ} (ho : o = ![h.val * 384, 128 * li.val]) {inb} :
    (Rect.unit (s := S768x768) o S384x128.size inb).set = outHalf li h := by
  subst ho; ext i
  simp only [Rect.mem_set_unit, mem_outHalf, Fin.forall_fin_succ]
  simp [S384x128]
  omega
theorem set_outQ (li : Fin 6) (c : Dev nD) {o : Fin 2 → ℕ} (ho : o = ![quarter li c * 192, 128 * li.val]) {inb} :
    (Rect.unit (s := S768x768) o S192x128.size inb).set = outQ li (hb li c) (qb li c) := by
  subst ho; ext i
  simp only [Rect.mem_set_unit, mem_outQ, Fin.forall_fin_succ]
  simp [S192x128, quarter]
  omega

/-! ## Where the rectangles put their elements -/

theorem emb_lane4 (li : Fin 6) {o : Fin 3 → ℕ} (ho : o = ![li.val, 0, 0]) {inb} (y : S1x384x128.Idx) :
    (Rect.unit (s := S6x384x128) o S1x384x128.size inb).emb y = at3 li (y 1) (y 2) := by
  subst ho
  have h0 : (y 0).val < 1 := (y 0).isLt
  funext a
  match a with
  | ⟨0, _⟩ => exact Fin.ext (by show li.val + 1 * (y 0).val = li.val; omega)
  | ⟨1, _⟩ => exact Fin.ext (by show 0 + 1 * (y 1).val = (y 1).val; omega)
  | ⟨2, _⟩ => exact Fin.ext (by show 0 + 1 * (y 2).val = (y 2).val; omega)
theorem emb_laneQ (li : Fin 6) (b : Fin 2) {o : Fin 3 → ℕ} (ho : o = ![li.val, b.val * 192, 0]) {inb} (y : S1x192x128.Idx) :
    (Rect.unit (s := S6x384x128) o S1x192x128.size inb).emb y = at3 li (rowQ b (y 1)) (y 2) := by
  subst ho
  have h0 : (y 0).val < 1 := (y 0).isLt
  funext a
  match a with
  | ⟨0, _⟩ => exact Fin.ext (by show li.val + 1 * (y 0).val = li.val; omega)
  | ⟨1, _⟩ => exact Fin.ext (by show b.val * 192 + 1 * (y 1).val = b.val * 192 + (y 1).val; omega)
  | ⟨2, _⟩ => exact Fin.ext (by show 0 + 1 * (y 2).val = (y 2).val; omega)
theorem emb_lane2 (li : Fin 6) {o : Fin 3 → ℕ} (ho : o = ![li.val, 0, 0]) {inb} (y : S1x192x128.Idx) :
    (Rect.unit (s := S6x192x128) o S1x192x128.size inb).emb y = at3 li (y 1) (y 2) := by
  subst ho
  have h0 : (y 0).val < 1 := (y 0).isLt
  funext a
  match a with
  | ⟨0, _⟩ => exact Fin.ext (by show li.val + 1 * (y 0).val = li.val; omega)
  | ⟨1, _⟩ => exact Fin.ext (by show 0 + 1 * (y 1).val = (y 1).val; omega)
  | ⟨2, _⟩ => exact Fin.ext (by show 0 + 1 * (y 2).val = (y 2).val; omega)
theorem emb_laneK (li : Fin 6) {o : Fin 3 → ℕ} (ho : o = ![li.val / 2, 0, 128 * (li.val % 2)]) {inb} (y : S1x384x128.Idx) :
    (Rect.unit (s := S3x384x256) o S1x384x128.size inb).emb y = at3 (third li) (y 1) (colS (side li) (y 2)) := by
  subst ho
  have h0 : (y 0).val < 1 := (y 0).isLt
  funext a
  match a with
  | ⟨0, _⟩ => exact Fin.ext (by show li.val / 2 + 1 * (y 0).val = li.val / 2; omega)
  | ⟨1, _⟩ => exact Fin.ext (by show 0 + 1 * (y 1).val = (y 1).val; omega)
  | ⟨2, _⟩ => exact Fin.ext (by show 128 * (li.val % 2) + 1 * (y 2).val = li.val % 2 * 128 + (y 2).val; omega)
theorem emb_thirdK (j : Fin 3) {o : Fin 3 → ℕ} (ho : o = ![j.val, 0, 0]) {inb} (y : S1x384x256.Idx) :
    (Rect.unit (s := S3x384x256) o S1x384x256.size inb).emb y = at3 j (y 1) (y 2) := by
  subst ho
  have h0 : (y 0).val < 1 := (y 0).isLt
  funext a
  match a with
  | ⟨0, _⟩ => exact Fin.ext (by show j.val + 1 * (y 0).val = j.val; omega)
  | ⟨1, _⟩ => exact Fin.ext (by show 0 + 1 * (y 1).val = (y 1).val; omega)
  | ⟨2, _⟩ => exact Fin.ext (by show 0 + 1 * (y 2).val = (y 2).val; omega)
theorem emb_rows (h : Fin 2) {o : Fin 2 → ℕ} (ho : o = ![h.val * 384, 0]) {inb} (y : S384x384.Idx) :
    (Rect.unit (s := S768x384) o S384x384.size inb).emb y = at2 (rowH h (y 0)) (y 1) := by
  subst ho
  funext a
  match a with
  | ⟨0, _⟩ => exact Fin.ext (by show h.val * 384 + 1 * (y 0).val = h.val * 384 + (y 0).val; omega)
  | ⟨1, _⟩ => exact Fin.ext (by show 0 + 1 * (y 1).val = (y 1).val; omega)
theorem emb_cols (j : Fin 3) {o : Fin 2 → ℕ} (ho : o = ![0, j.val * 256]) {inb} (y : S384x256.Idx) :
    (Rect.unit (s := S384x768) o S384x256.size inb).emb y = at2 (y 0) (colT j (y 1)) := by
  subst ho
  funext a
  match a with
  | ⟨0, _⟩ => exact Fin.ext (by show 0 + 1 * (y 0).val = (y 0).val; omega)
  | ⟨1, _⟩ => exact Fin.ext (by show j.val * 256 + 1 * (y 1).val = j.val * 256 + (y 1).val; omega)
theorem emb_outQ (li : Fin 6) (c : Dev nD) {o : Fin 2 → ℕ} (ho : o = ![quarter li c * 192, 128 * li.val]) {inb} (y : S192x128.Idx) :
    (((Rect.unit (s := S768x768) o S192x128.size inb).emb y) 0).val = quarter li c * 192 + (y 0).val
      ∧ (((Rect.unit (s := S768x768) o S192x128.size inb).emb y) 1).val = 128 * li.val + (y 1).val := by
  subst ho
  exact ⟨by show quarter li c * 192 + 1 * (y 0).val = _; omega, by show 128 * li.val + 1 * (y 1).val = _; omega⟩

/-! ## Reads, stores and landings through whole buffers -/

section Views

variable {Val : EltTy → Type}

/-- A load off a whole buffer reads the buffer's contents at the rectangle's elements. -/
theorem readAt_whole_unit (b : Ref sig .tc) (r : Rect b.ty.shape) (f : b.ty.Contents Val) :
    (Memref.whole b).view.readAt Val r.toLoadRect f = fun y => f (r.emb y) := rfl

/-- A store of the values a function has under the rectangle leaves the function there. -/
theorem store_eq (b : Ref sig .tc) (r : Rect b.ty.shape) (f G : b.ty.Contents Val) (w : r.shape.Idx → Val b.ty.elt)
    (h : ∀ y, w y = G (r.emb y)) :
    ∀ i ∈ r.set, ((Memref.whole b).access r).write Val f w Finset.univ i = G i := by
  intro i hi
  obtain ⟨y, rfl⟩ := r.exists_idx_of_mem hi
  exact (View.write_emb_of_mem (v := (Memref.whole b).access r) f w (Finset.mem_univ y)).trans (h y)

/-- What a view reads off a function, written through another view onto a function that reads the same there, is that
    function. -/
theorem land_eq {sp sp' : Space} {s : Shape} {e : EltTy} (v : View sig .tc sp s e) (w : View sig .tc sp' s e)
    (fd G : v.ty.Contents Val) (fs : w.ty.Contents Val) (h : ∀ x, w.read Val fs x = v.read Val G x) :
    ∀ i ∈ v.set, v.write Val fd (w.read Val fs) Finset.univ i = G i := by
  intro i hi
  rw [show w.read Val fs = v.read Val G from funext h, View.write_read_eq_piecewise]
  exact Finset.piecewise_eq_of_mem _ _ _ (by rw [View.setOn_univ]; exact hi)

end Views

end Cert.KernelIdealProof

end
-- ==== Proof.KernelIdeal.Schedule.lean ====
/-
# The protocol

Every device has a barrier cell, thirty send cells and thirty receive cells — one per round and lane —, each with a
single round. The barrier cell has one duty per axis: the neighbour across the axis signals that its landing places for
everything this device will ever send it across that axis are ready, and hands them over. A receive cell's duty is paid
by the transfer landing there and hands over the landing place with the contents it now has; a send cell's duty is paid
by the same transfer and hands the source back.
-/
module

public import proofs.«01_k».proof.Proof.KernelIdeal.Contents
public import proofs.«01_k».proof.Proof.Gen.KernelIdeal.Launch
public import Idealize.ShloMosaic.Lib.Pipeline.Launch
public import Idealize.ShloMosaic.Lib.Pipeline.Kit

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The elements `S` of device `c`'s buffer `b`, held at share `q` with contents `f`. -/
abbrev pts (c : Dev nD) (b : Ref sig .tc) (S : Finset (Idx ((c : Thread nD τ).loc b))) (q : PosShare TreeShare)
    (f : Buf (Elt F) ((c : Thread nD τ).loc b)) : sProp 𝕄 := ((c : Thread nD τ).loc b) ↦[S]{q} f

/-- One of the two halves of the whole share. -/
abbrev qL : PosShare TreeShare := fullShare.left
/-- The other. -/
abbrev qR : PosShare TreeShare := fullShare.right

/-- The whole share of some elements is its two halves. -/
theorem pts_halves (c : Dev nD) (b : Ref sig .tc) (S : Finset (Idx ((c : Thread nD τ).loc b)))
    (f : Buf (Elt F) ((c : Thread nD τ).loc b)) : pts c b S fullShare f ⊣⊢ iprop(pts c b S qL f ∗ pts c b S qR f) :=
  pointsTo_share (PosShare.mem_left_op_right fullShare)

/-! ## Cells -/

/-- The runtime's barrier semaphore. -/
abbrev barS : Sem sig := (SemArray.scalar (sig.barrier 0 rfl) : Sems sig S_).sem
/-- The send semaphore of round `r`, lane `li`. -/
def sendSem (r : Fin 5) (li : Fin 6) : DmaSem sig := ⟨3 + (6 * r.val + li.val), by show _ < 63; omega⟩
/-- The receive semaphore of round `r`, lane `li`. -/
def recvSem (r : Fin 5) (li : Fin 6) : DmaSem sig := ⟨33 + (6 * r.val + li.val), by show _ < 63; omega⟩

abbrev barCell (c : Dev nD) : GSem nD τ sig := ((c : Thread nD τ), .reg barS)
abbrev sendCell (r : Fin 5) (li : Fin 6) (c : Dev nD) : GSem nD τ sig := ((c : Thread nD τ), .dma (sendSem r li))
abbrev recvCell (r : Fin 5) (li : Fin 6) (c : Dev nD) : GSem nD τ sig := ((c : Thread nD τ), .dma (recvSem r li))

/-- A device's cells: the barrier (`none`); the send and receive cells (`false`, `true`) by round and lane. -/
abbrev CI : Type := Option (Bool × Fin 5 × Fin 6)

/-- The semaphore of a cell. -/
def csem : CI → SemLoc sig
  | none => .reg barS
  | some (false, r, li) => .dma (sendSem r li)
  | some (true, r, li) => .dma (recvSem r li)

/-- The cell of a semaphore; the first three transfer semaphores are the pipeline's own. -/
def ciOf : SemLoc sig → Option CI
  | .reg _ => some none
  | .dma s =>
    if s.val < 3 then none
    else if s.val < 33 then some (some (false, ⟨(s.val - 3) / 6 % 5, Nat.mod_lt _ (by decide)⟩, ⟨(s.val - 3) % 6, Nat.mod_lt _ (by decide)⟩))
    else some (some (true, ⟨(s.val - 33) / 6 % 5, Nat.mod_lt _ (by decide)⟩, ⟨(s.val - 33) % 6, Nat.mod_lt _ (by decide)⟩))

theorem ciOf_bar : ciOf (.reg barS) = some none := rfl
theorem ciOf_send (r : Fin 5) (li : Fin 6) : ciOf (.dma (sendSem r li)) = some (some (false, r, li)) := by
  revert r li; decide
theorem ciOf_recv (r : Fin 5) (li : Fin 6) : ciOf (.dma (recvSem r li)) = some (some (true, r, li)) := by
  revert r li; decide
theorem ciOf_csem (k : CI) : ciOf (csem k) = some k := by
  match k with
  | none => rfl
  | some (false, r, li) => exact ciOf_send r li
  | some (true, r, li) => exact ciOf_recv r li

/-- The units a transfer of round `r` credits. -/
def amt (r : Fin 5) : ℕ :=
  match r with
  | 0 => (cc0_scratch6 : Ref sig .tc).dmaCredit S384x128 .bf16
  | 1 => (cc0_scratch7 : Ref sig .tc).dmaCredit S192x128 .bf16
  | 2 => (cc0_scratch8 : Ref sig .tc).dmaCredit S192x128 .bf16
  | 3 => (cc0_stg2_0 : Ref sig .tc).dmaCredit S192x128 .bf16
  | 4 => (cc0_stg2_0 : Ref sig .tc).dmaCredit S384x128 .bf16

theorem amt_pos (r : Fin 5) : 0 < amt r := by
  match r with
  | 0 => exact sig.dmaCredit_pos _ _ _ _ _ (by decide)
  | 1 => exact sig.dmaCredit_pos _ _ _ _ _ (by decide)
  | 2 => exact sig.dmaCredit_pos _ _ _ _ _ (by decide)
  | 3 => exact sig.dmaCredit_pos _ _ _ _ _ (by decide)
  | 4 => exact sig.dmaCredit_pos _ _ _ _ _ (by decide)

/-- The units of one duty of a cell. -/
def units : Option CI → ℕ
  | some (some (_, r, _)) => amt r
  | _ => 1

theorem units_pos (k : Option CI) : 0 < units k := by
  match k with
  | none => exact Nat.one_pos
  | some none => exact Nat.one_pos
  | some (some (_, r, _)) => exact amt_pos r

section Sched

variable (A : Dev nD → Vec F S768x384 .bf16) (B : Dev nD → Vec F S384x768 .bf16)

/-! ## What the duties hand over -/

omit [FloatOps F] in
/-- Where a transfer of round `r`, lane `li` lands on device `c`, with contents one function per buffer. -/
def landAt (r : Fin 5) (li : Fin 6) (c : Dev nD) (g4 : Vec F S6x384x128 .bf16) (g2 : Vec F S6x192x128 .bf16) (go : Vec F S768x768 .bf16) : sProp 𝕄 :=
  match r with
  | 0 => pts c cc0_scratch6 (lane4 li) fullShare g4
  | 1 => pts c cc0_scratch7 (lane2 li) fullShare g2
  | 2 => pts c cc0_scratch8 (lane2 li) fullShare g2
  | 3 => pts c cc0_stg2_0 (outQ li (hb li c) (opp (qb li c))) fullShare go
  | 4 => pts c cc0_stg2_0 (outHalf li (opp (hb li c))) fullShare go

/-- The landing place before anything landed. -/
def landPay (r : Fin 5) (li : Fin 6) (c : Dev nD) : sProp 𝕄 := iprop(∃ g4 g2 go, landAt (F := F) r li c g4 g2 go)

/-- The landing place with what landed. -/
def recvPay (r : Fin 5) (li : Fin 6) (c : Dev nD) : sProp 𝕄 :=
  match r with
  | 0 => pts c cc0_scratch6 (lane4 li) fullShare (rb0G A B c)
  | 1 => pts c cc0_scratch7 (lane2 li) fullShare (rb1G A B c)
  | 2 => pts c cc0_scratch8 (lane2 li) fullShare (rb2G A B c)
  | 3 => pts c cc0_stg2_0 (outQ li (hb li c) (opp (qb li c))) fullShare (outG A B c)
  | 4 => pts c cc0_stg2_0 (outHalf li (opp (hb li c))) fullShare (outG A B c)

/-- The source, back: whole where nothing else reads it, a half share where it is read meanwhile. -/
def sendPay (r : Fin 5) (li : Fin 6) (c : Dev nD) : sProp 𝕄 :=
  match r with
  | 0 => pts c cc0_scratch5 (lane4 li) fullShare (sbG A B c)
  | 1 => pts c cc0_scratch3 (laneQ li (opp (qb li c))) fullShare (ab0G A B c)
  | 2 => pts c cc0_scratch4 (lane2 li) qL (ab1G A B c)
  | 3 => pts c cc0_stg2_0 (outQ li (hb li c) (qb li c)) qL (outG A B c)
  | 4 => pts c cc0_stg2_0 (outHalf li (hb li c)) qR (outG A B c)

/-- The transfers across axis `b`. -/
def onAxis (b : Fin 3) : Finset (Fin 5 × Fin 6) := Finset.univ.filter fun k => axis (back k.1) k.2 = b

/-- What the neighbour of `c` across axis `b` hands over with its signal: its landing places across that axis. -/
def barPay (c : Dev nD) (b : Fin 3) : sProp 𝕄 := bigSep (onAxis b) fun k => landPay (F := F) k.1 k.2 (flip b c)

omit [FloatOps F] in
instance landAt_storable (r : Fin 5) (li : Fin 6) (c : Dev nD) (g4) (g2) (go) :
    BI.Storable (upEmb : UEmb _ 𝕄) (landAt (F := F) r li c g4 g2 go) := by
  unfold landAt; split <;> infer_instance
omit [FloatOps F] in
instance landPay_storable (r : Fin 5) (li : Fin 6) (c : Dev nD) : BI.Storable (upEmb : UEmb _ 𝕄) (landPay (F := F) r li c) := by
  unfold landPay; infer_instance
instance recvPay_storable (r : Fin 5) (li : Fin 6) (c : Dev nD) : BI.Storable (upEmb : UEmb _ 𝕄) (recvPay A B r li c) := by
  unfold recvPay; split <;> infer_instance
instance sendPay_storable (r : Fin 5) (li : Fin 6) (c : Dev nD) : BI.Storable (upEmb : UEmb _ 𝕄) (sendPay A B r li c) := by
  unfold sendPay; split <;> infer_instance
omit [FloatOps F] in
instance barPay_storable (c : Dev nD) (b : Fin 3) : BI.Storable (upEmb : UEmb _ 𝕄) (barPay (F := F) c b) := by
  unfold barPay; infer_instance

/-! ## The schedule -/

/-- One round per cell: three unit duties on a barrier cell, one duty of the transfer's credit on the others. -/
def sched : Rounds.Schedule (GSem nD τ sig) (Fin 3) 𝕄 where
  duties g r := if r = 0 ∧ g.1.2 = .tc then (match ciOf g.2 with | none => ∅ | some none => Finset.univ | some (some _) => {0}) else ∅
  unitless _ := False
  amount g _ _ := units (ciOf g.2)
  payload g _ d := match ciOf g.2 with
    | none => iprop(emp)
    | some none => barPay (F := F) g.1.1 d
    | some (some (false, r, li)) => sendPay A B r li g.1.1
    | some (some (true, r, li)) => recvPay A B r li g.1.1
  amount_pos g _ _ _ := units_pos _

instance sched_payload_storable (g : GSem nD τ sig) (r : ℕ) (d : Fin 3) :
    BI.Storable (upEmb : UEmb _ 𝕄) ((sched A B).payload g r d) := by
  dsimp only [sched]
  split <;> infer_instance

theorem duties_bar (c : Dev nD) : (sched A B).duties (barCell c) 0 = Finset.univ := by
  dsimp only [sched]; rw [if_pos ⟨rfl, rfl⟩, ciOf_bar]
theorem duties_send (r : Fin 5) (li : Fin 6) (c : Dev nD) : (sched A B).duties (sendCell r li c) 0 = {0} := by
  dsimp only [sched]; rw [if_pos ⟨rfl, rfl⟩, ciOf_send]
theorem duties_recv (r : Fin 5) (li : Fin 6) (c : Dev nD) : (sched A B).duties (recvCell r li c) 0 = {0} := by
  dsimp only [sched]; rw [if_pos ⟨rfl, rfl⟩, ciOf_recv]
theorem duties_later (g : GSem nD τ sig) : ∀ r, 1 ≤ r → (sched A B).duties g r = ∅ :=
  fun r hr => by dsimp only [sched]; rw [if_neg fun h => by omega]
theorem amount_bar (c : Dev nD) (d : Fin 3) : (sched A B).amount (barCell c) 0 d = 1 := by
  dsimp only [sched]; rw [ciOf_bar]; rfl
theorem amount_send (r : Fin 5) (li : Fin 6) (c : Dev nD) (d : Fin 3) : (sched A B).amount (sendCell r li c) 0 d = amt r := by
  dsimp only [sched]; rw [ciOf_send]; rfl
theorem amount_recv (r : Fin 5) (li : Fin 6) (c : Dev nD) (d : Fin 3) : (sched A B).amount (recvCell r li c) 0 d = amt r := by
  dsimp only [sched]; rw [ciOf_recv]; rfl
theorem expect_bar (c : Dev nD) : (sched A B).expect (barCell c) 0 = 3 := by
  unfold Schedule.expect Schedule.amountOf
  rw [duties_bar, Finset.sum_congr rfl fun d _ => amount_bar A B c d, Finset.sum_const, Finset.card_univ, Fintype.card_fin, smul_eq_mul]
theorem expect_send (r : Fin 5) (li : Fin 6) (c : Dev nD) : (sched A B).expect (sendCell r li c) 0 = amt r := by
  unfold Schedule.expect Schedule.amountOf; rw [duties_send, Finset.sum_singleton, amount_send]
theorem expect_recv (r : Fin 5) (li : Fin 6) (c : Dev nD) : (sched A B).expect (recvCell r li c) 0 = amt r := by
  unfold Schedule.expect Schedule.amountOf; rw [duties_recv, Finset.sum_singleton, amount_recv]
theorem payload_bar (c : Dev nD) (d : Fin 3) : (sched A B).payload (barCell c) 0 d = barPay (F := F) c d := by
  dsimp only [sched]; rw [ciOf_bar]
theorem payload_send (r : Fin 5) (li : Fin 6) (c : Dev nD) (d : Fin 3) : (sched A B).payload (sendCell r li c) 0 d = sendPay A B r li c := by
  dsimp only [sched]; rw [ciOf_send]
theorem payload_recv (r : Fin 5) (li : Fin 6) (c : Dev nD) (d : Fin 3) : (sched A B).payload (recvCell r li c) 0 d = recvPay A B r li c := by
  dsimp only [sched]; rw [ciOf_recv]
theorem rest_bar (c : Dev nD) : bigSep ((sched A B).duties (barCell c) 0 \ ∅) (fun d => (sched A B).payload (barCell c) 0 d)
    = bigSep Finset.univ (fun d => barPay (F := F) c d) := by
  rw [Finset.sdiff_empty, duties_bar]; exact bigSep_congr fun d _ => payload_bar A B c d
theorem rest_send (r : Fin 5) (li : Fin 6) (c : Dev nD) :
    bigSep ((sched A B).duties (sendCell r li c) 0 \ ∅) (fun d => (sched A B).payload (sendCell r li c) 0 d) = sendPay A B r li c := by
  rw [Finset.sdiff_empty, duties_send, bigSep_singleton, payload_send]
theorem rest_recv (r : Fin 5) (li : Fin 6) (c : Dev nD) :
    bigSep ((sched A B).duties (recvCell r li c) 0 \ ∅) (fun d => (sched A B).payload (recvCell r li c) 0 d) = recvPay A B r li c := by
  rw [Finset.sdiff_empty, duties_recv, bigSep_singleton, payload_recv]

end Sched

/-! ## What a device owes; the levels -/

/-- A transfer's place in the order the kernel starts them. -/
abbrev ord (k : Fin 5 × Fin 6) : ℕ := 6 * k.1.val + k.2.val

/-- What device `c` owes its partners' receive cells before its transfer number `n`: the credit of each from there on. -/
def Orem (n : ℕ) (c : Dev nD) : CellTallies nD τ sig Unit :=
  ∑ k ∈ Finset.univ.filter (fun k : Fin 5 × Fin 6 => n ≤ ord k), tallyAt (recvCell k.1 k.2 (par k.1 k.2 c)) () (amt k.1)

/-- Starting transfer `(r, li)` pays its credit. -/
theorem Orem_peel (r : Fin 5) (li : Fin 6) (c : Dev nD) :
    Orem (ord (r, li)) c = Orem (ord (r, li) + 1) c + tallyAt (recvCell r li (par r li c)) () (amt r) := by
  unfold Orem
  rw [add_comm, ← Finset.sum_insert (s := Finset.univ.filter (fun k : Fin 5 × Fin 6 => ord (r, li) + 1 ≤ ord k)) (a := (r, li))
    (f := fun k : Fin 5 × Fin 6 => tallyAt (recvCell k.1 k.2 (par k.1 k.2 c)) () (amt k.1))
    (by simp)]
  refine Finset.sum_congr ?_ fun _ _ => rfl
  ext ⟨r', li'⟩
  simp only [Finset.mem_filter, Finset.mem_univ, true_and, Finset.mem_insert, Prod.mk.injEq, Fin.ext_iff, ord]
  omega

theorem Orem_end (c : Dev nD) : Orem 30 c = 0 := by
  unfold Orem
  rw [Finset.filter_eq_empty_iff.mpr fun k _ => by have := k.1.isLt; have := k.2.isLt; show ¬ 30 ≤ 6 * k.1.val + k.2.val; omega]
  rfl

/-- What it owes after two, one and no signals. -/
def O₂ (c : Dev nD) : CellTallies nD τ sig Unit := Orem 0 c + tallyAt (barCell (flip 2 c)) () 1
def O₁ (c : Dev nD) : CellTallies nD τ sig Unit := O₂ c + tallyAt (barCell (flip 1 c)) () 1
def O₀ (c : Dev nD) : CellTallies nD τ sig Unit := O₁ c + tallyAt (barCell (flip 0 c)) () 1

def L (g : GSem nD τ sig) : Finset Unit := if g.1.2 = .tc then {()} else ∅
/-- Barrier cells at 1, receive cells of round `r` at `2 + r`, everything else at 0. -/
def lv (g : GSem nD τ sig) (_ : Unit) : ℕ := match ciOf g.2 with
  | some none => 1
  | some (some (true, r, _)) => 2 + r.val
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [ciOf_bar]
theorem lv_recv (r : Fin 5) (li : Fin 6) (c : Dev nD) (u : Unit) : lv (recvCell r li c) u = 2 + r.val := by unfold lv; rw [ciOf_recv]
theorem lv_send (r : Fin 5) (li : Fin 6) (c : Dev nD) (u : Unit) : lv (sendCell r li c) u = 0 := by unfold lv; rw [ciOf_send]

theorem lv_stage (c : Dev nD) (q : DmaSem sig) (hq : q.val < 3) (u : Unit) : lv ((c : Thread nD τ), .dma q) u = 0 := by
  have h : ciOf (.dma q) = none := if_pos hq
  unfold lv; rw [h]

theorem tally_pos {g g' : GSem nD τ sig} {n : ℕ} {u : Unit} (h : 0 < tallyAt g' () n g u) : g = g' := by
  rw [tallyAt_apply] at h
  by_contra hn
  rw [if_neg (fun h' => hn h'.1)] at h
  exact Nat.lt_irrefl 0 h

theorem Orem_pos {n : ℕ} {c : Dev nD} {g : GSem nD τ sig} {u : Unit} (h : 0 < Orem n c g u) :
    ∃ k : Fin 5 × Fin 6, n ≤ ord k ∧ g = recvCell k.1 k.2 (par k.1 k.2 c) := by
  unfold Orem at h
  rw [Finset.sum_apply, Finsupp.finset_sum_apply] at h
  obtain ⟨k, hk, hp⟩ := Finset.exists_ne_zero_of_sum_ne_zero h.ne'
  exact ⟨k, (Finset.mem_filter.mp hk).2, tally_pos (Nat.pos_of_ne_zero hp)⟩

theorem O₀_pos {c : Dev nD} {g : GSem nD τ sig} {u : Unit} (h : 0 < O₀ c g u) :
    (∃ k : Fin 5 × Fin 6, g = recvCell k.1 k.2 (par k.1 k.2 c)) ∨ ∃ b, g = barCell (flip b c) := by
  unfold O₀ O₁ O₂ at h
  rw [Pi.add_apply, Finsupp.add_apply, Pi.add_apply, Finsupp.add_apply, Pi.add_apply, Finsupp.add_apply] at h
  by_cases h0 : 0 < Orem 0 c g u
  · obtain ⟨k, _, hk⟩ := Orem_pos h0; exact .inl ⟨k, hk⟩
  · by_cases h2 : 0 < tallyAt (barCell (flip 2 c)) () 1 g u
    · exact .inr ⟨2, tally_pos h2⟩
    · by_cases h1 : 0 < tallyAt (barCell (flip 1 c)) () 1 g u
      · exact .inr ⟨1, tally_pos h1⟩
      · refine .inr ⟨0, tally_pos (u := u) (n := 1) ?_⟩
        rw [Nat.eq_zero_of_not_pos h0, Nat.eq_zero_of_not_pos h1, Nat.eq_zero_of_not_pos h2] at h
        simpa only [Nat.zero_add] using h

/-- A device that owes only transfers of later rounds may wait on its receive cell of round `r`. -/
theorem mayWait_recv (r : Fin 5) (li : Fin 6) (n : ℕ) (c : Dev nD) (hn : 6 * r.val + 6 ≤ n) :
    (levAts L lv : sProp 𝕄) ⊢ MayWait (c : Thread nD τ) (.dma (recvSem r li)) () (Orem n c) :=
  MayOwe.of_cut (L := L) (lev := lv) (2 + r.val) (fun p hp => by rw [Finset.mem_singleton.mp hp, L_tc]; exact Finset.mem_singleton_self _)
    (fun g u hg => by obtain ⟨k, _, rfl⟩ := Orem_pos hg; rw [L_tc]; exact Finset.mem_singleton_self _)
    (fun p hp => by rw [Finset.mem_singleton.mp hp]; exact le_of_eq (lv_recv r li c ()))
    (fun g u hg => by
      obtain ⟨k, hk, rfl⟩ := Orem_pos hg
      rw [lv_recv]
      have := k.2.isLt
      have hk' : n ≤ 6 * k.1.val + k.2.val := hk
      omega)

/-- Owing transfers only, it may wait on its barrier cell. -/
theorem mayWait_bar (c : Dev nD) : (levAts L lv : sProp 𝕄) ⊢ MayWait (c : Thread nD τ) (.reg barS) () (Orem 0 c) :=
  MayOwe.of_cut (L := L) (lev := lv) 1 (fun p hp => by rw [Finset.mem_singleton.mp hp, L_tc]; exact Finset.mem_singleton_self _)
    (fun g u hg => by obtain ⟨k, _, rfl⟩ := Orem_pos hg; rw [L_tc]; exact Finset.mem_singleton_self _)
    (fun p hp => by rw [Finset.mem_singleton.mp hp]; exact le_of_eq (lv_bar c ()))
    (fun g u hg => by obtain ⟨k, _, rfl⟩ := Orem_pos hg; rw [lv_recv]; omega)

/-- On the pipeline's own cells it may wait whatever it owes. -/
theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨b, rfl⟩ <;> exact Finset.mem_singleton_self _)
      (fun p hp => by rw [Finset.mem_singleton.mp hp]; exact le_of_eq (lv_stage c q hq ()))
      (fun g u hg => by
        rcases O₀_pos hg with ⟨k, rfl⟩ | ⟨b, rfl⟩
        · rw [lv_recv]; omega
        · rw [lv_bar]; omega)
  · rw [MayWait_zero]; iintro -; iempintro

end Cert.KernelIdealProof

end
-- ==== Proof.KernelIdeal.Steps.lean ====
/-
# One effect at a time

What a device knows throughout, what it holds per transfer, and the rules of its effects — a transfer, a wait for
what lands, a wait for what was sent, a load, a store — with the contents of the buffers they touch. Each rule is stated
once, for every device, lane and round it serves.
-/
module

public import proofs.«01_k».proof.Proof.KernelIdeal.Schedule
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- Device `c` runs `p` to a state where `Q` holds. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

section Steps

variable (A : Dev nD → Vec F S768x384 .bf16) (B : Dev nD → Vec F S384x768 .bf16) (K : Dev nD × CI → ℕ)

/-! ## What is known throughout -/

/-- A device's cell. -/
abbrev cellAt (p : Dev nD × CI) : GSem nD τ sig := ((p.1 : Thread nD τ), csem p.2)

/-- Every cell's invariant, the first round of every cell, the levels. -/
def Know : sProp 𝕄 :=
  iprop((bigSep Finset.univ fun p => cellInv ER (sched A B) (K p) (cellAt p)) ∗ (bigSep Finset.univ fun p => reached ER (cellAt p) 0) ∗ levAts L lv)

instance know_persistent : Persistent (Know A B K) := by unfold Know; infer_instance

theorem know_inv (p : Dev nD × CI) : Know A B K ⊢ cellInv ER (sched A B) (K p) (cellAt p) := by
  unfold Know
  exact sep_elim_left.trans (bigSep_elim (Finset.mem_univ p))
theorem know_reached (p : Dev nD × CI) : Know A B K ⊢ reached ER (cellAt p) 0 := by
  unfold Know
  exact sep_elim_right.trans (sep_elim_left.trans (bigSep_elim (Finset.mem_univ p)))
theorem know_lev : Know A B K ⊢ (levAts L lv : sProp 𝕄) := by
  unfold Know; iintro ⟨-, -, H⟩; iexact H

/-! ## What a device holds per transfer -/

/-- It owes `O`, having waited on whatever it has. -/
def owesE (c : Dev nD) (O : CellTallies nD τ sig Unit) : sProp 𝕄 := iprop(∃ W, owes (c : Thread nD τ) O W)

/-- The right to make the transfer, and its own position on the send cell. -/
def toks (r : Fin 5) (li : Fin 6) (c : Dev nD) : sProp 𝕄 :=
  iprop(dutyTok ER (sendCell r li c) 0 0 ∗ dutyTok ER (recvCell r li (par r li c)) 0 0 ∗ atPos ER (sendCell r li c) 0 ∅ 0)
/-- With the partner's landing place. -/
def snd (r : Fin 5) (li : Fin 6) (c : Dev nD) : sProp 𝕄 := iprop(toks (F := F) r li c ∗ landPay (F := F) r li (par r li c))
/-- The transfer is under way: what waiting for it takes. -/
def sent (r : Fin 5) (li : Fin 6) (c : Dev nD) : sProp 𝕄 :=
  iprop(atPos ER (sendCell r li c) 0 ∅ 0 ∗ cred (tallyAt (sendCell r li c) () (amt r)))
/-- It is over: the cell at zero, the source back. -/
def back' (r : Fin 5) (li : Fin 6) (c : Dev nD) : sProp 𝕄 := iprop(semVal (sendCell r li c) 0 ∗ sendPay A B r li c)
/-- What waiting for the partner's transfer takes. -/
def due (r : Fin 5) (li : Fin 6) (c : Dev nD) : sProp 𝕄 :=
  iprop(atPos ER (recvCell r li c) 0 ∅ 0 ∗ cred (tallyAt (recvCell r li c) () (amt r)))

/-! ## Transfers and waits -/

/-- A transfer of round `r`, lane `li`: the source at share `q`, the partner's landing place at whatever it holds; what the
    source reads is what `G` reads at the landing place, which holds `G` afterwards. -/
theorem wp_xfer (r : Fin 5) (li : Fin 6) (c : Dev nD) {s : Shape} {e : EltTy} {src dst : Memref sig .tc .vmem s e}
    {n : Dev nD} (hn : n = par r li c) {sS sR : DmaSem sig} (hsS : sS = sendSem r li) (hsR : sR = recvSem r li)
    {hsc : (dst : Memref sig (Dev.tc n : Thread nD τ).2.kind .vmem s e).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α}
    (q : PosShare TreeShare) (fs : Buf (Elt F) (src.view.loc (c : Thread nD τ)))
    (fd : Buf (Elt F) (dst.view.loc (par r li c : Thread nD τ)))
    (hN : ∀ sm : DmaSem sig, (dst : Memref sig .tc .vmem s e).view.amount (.dma sm) = amt r)
    (hpay₁ : (src.view.loc (c : Thread nD τ) ↦[src.view.set]{q} fs) ⊢ sendPay A B r li c)
    (G : Buf (Elt F) (dst.view.loc (par r li c : Thread nD τ)))
    (h : ∀ x, src.view.read (Elt F) fs x = dst.view.read (Elt F) G x)
    (hpay₂ : (dst.view.loc (par r li c : Thread nD τ) ↦[dst.view.set]{fullShare} G) ⊢ recvPay A B r li (par r li c)) :
    iprop(Know A B K ∗ toks (F := F) r li c ∗ (src.view.loc (c : Thread nD τ) ↦[src.view.set]{q} fs)
        ∗ (dst.view.loc (par r li c : Thread nD τ) ↦[dst.view.set]{fullShare} fd) ∗ owesE (F := F) c (Orem (ord (r, li)) c))
      ⊢ iprop(((sent (F := F) r li c ∗ owesE (F := F) c (Orem (ord (r, li) + 1) c)) -∗ run c (k ⟨⟩) Q)
          -∗ run c (.op (.enqueueDma src (.remote (Dev.tc n : Thread nD τ) dst (.dma sS) hsc) (.dma sR) hsrc hdst hsem) k) Q) := by
  subst hn hsS hsR
  unfold toks owesE
  iintro ⟨#HK, ⟨Ht, Ht', Hat⟩, Hs, Hd, ⟨%W, HO⟩⟩ Hk
  iapply (Rounds.wp_send_pointsTo 𝒱₀ ER (sched A B) (c : Thread nD τ) none (κ₁ := K (c, some (false, r, li))) (κ₂ := K (par r li c, some (true, r, li)))
      (r₁ := 0) (r₂ := 0) (d₁ := 0) (d₂ := 0) (fd := fd)
      (by rw [duties_send]; exact Finset.mem_singleton_self _) (by rw [duties_recv]; exact Finset.mem_singleton_self _)
      () () (amt r) (hN _) (amount_send A B r li c 0) (amount_recv A B r li (par r li c) 0) (Orem (ord (r, li) + 1) c) (Orem_peel r li c) (W := W)
      (by rw [payload_send]; exact hpay₁) (by
        rw [payload_recv, pointsTo_congr (land_eq dst.view src.view fd G fs h)]
        exact hpay₂)) $$ [Hs Hd HO Ht Ht']
  · isplitr; · iapply (know_inv A B K (c, some (false, r, li))); iexact HK
    isplitr; · iapply (know_inv A B K (par r li c, some (true, r, li))); iexact HK
    isplitl [Hs]; · iexact Hs
    isplitl [Hd]; · iexact Hd
    isplitl [HO]; · iexact HO
    isplitl [Ht]; · iexact Ht
    isplitr; · iapply (know_reached A B K (c, some (false, r, li))); iexact HK
    isplitl [Ht']; · iexact Ht'
    iapply (know_reached A B K (par r li c, some (true, r, li))); iexact HK
  iintro ⟨Hc, HO⟩
  iapply Hk
  unfold sent
  isplitl [Hat Hc]
  · isplitl [Hat]; · iexact Hat
    iexact Hc
  iexists W; iexact HO

/-- Waiting for what lands, owing only later rounds' transfers: the landing place with its contents; the cell is done. -/
theorem wp_recv (r : Fin 5) (li : Fin 6) (n : ℕ) (hn : 6 * r.val + 6 ≤ n) (c : Dev nD) {s s' : Shape} {e e' : EltTy}
    {src : Memref sig .tc .vmem s' e'} {dst : Memref sig .tc .vmem s e} {sR : DmaSem sig} (hsR : sR = recvSem r li)
    {hsrc : src.view.WordExact} {hdst : dst.view.WordExact} (hN : dst.view.dmaCredit = amt r)
    {α : Type} {Q : α → sProp 𝕄} {k : PUnit → Prog (TpuEff nD τ sig (Elt F) Λ₀ .tc) α} :
    iprop(Know A B K ∗ due (F := F) r li c ∗ owesE (F := F) c (Orem n c))
      ⊢ iprop(((semVal (recvCell r li c) 0 ∗ recvPay A B r li c ∗ owesE (F := F) c (Orem n c)) -∗ run c (k ⟨⟩) Q)
          -∗ run c (.op (.waitDma2 sR src dst hsrc hdst) k) Q) := by
  subst hsR
  unfold due owesE
  iintro ⟨#HK, ⟨Hat, Hc⟩, ⟨%W, HO⟩⟩ Hk
  iapply (Rounds.wp_wait_rest_token 𝒱₀ ER (sched A B) (c : Thread nD τ) none (κ := K (c, some (true, r, li)))
      (wpE_waitDma2_eq 𝒱₀ (c : Thread nD τ) none Set.univ) (Set.mem_univ _) () (O := Orem n c) (W := W) (R := 0) (m := 0) (T := ∅)
      (by rw [Nat.zero_add, hN, expect_recv])) $$ [Hc HO Hat]
  · isplitr; · iapply (know_inv A B K (c, some (true, r, li))); iexact HK
    isplitl [Hc]; · rw [hN]; iexact Hc
    isplitl [HO]; · iexact HO
    isplitr; · iapply (mayWait_recv r li n c hn); iapply (know_lev A B K); iexact HK
    iexact Hat
  iintro ⟨HO, Hat, -, Hpay⟩
  imod (Rounds.cell_close ER (sched A B) (Set.mem_univ (K (c, some (true, r, li)))) (fun h => h) (R := 0 + 1) (duties_later A B (recvCell r li c))) $$ [Hat] with Hz
  · isplitr; · iapply (know_inv A B K (c, some (true, r, li))); iexact HK
    iexact Hat
  iapply Hk
  isplitl [Hz]; · iexact Hz
  isplitl [Hpay]; · iapply (Entails.of_eq (rest_recv A B r li c)); iexact Hpay
  iexists _; iexact HO

/-- Waiting for what was sent, owing nothing: the source back; the cell is done. -/
theorem wp_sent (r : Fin 5) (li : Fin 6) (c : Dev nD) {s s' : Shape} {e e' : EltTy}
    {src : Memref sig .tc .vmem s' e'} {dst : Memref sig .tc .vmem s e} {sS : DmaSem sig} (hsS : sS = sendSem r li)
    {hsrc : src.view.WordExact} {hdst : dst.view.WordExact} (hN : dst.view.dmaCredit = amt r)
    {α : Type} {Q : α → sProp 𝕄} {k : PUnit → Prog (TpuEff nD τ sig (Elt F) Λ₀ .tc) α} :
    iprop(Know A B K ∗ sent (F := F) r li c ∗ owesE (F := F) c 0)
      ⊢ iprop(((back' A B r li c ∗ owesE (F := F) c 0) -∗ run c (k ⟨⟩) Q)
          -∗ run c (.op (.waitDma2 sS src dst hsrc hdst) k) Q) := by
  subst hsS
  unfold sent owesE back'
  iintro ⟨#HK, ⟨Hat, Hc⟩, ⟨%W, HO⟩⟩ Hk
  iapply (Rounds.wp_wait_rest_token 𝒱₀ ER (sched A B) (c : Thread nD τ) none (κ := K (c, some (false, r, li)))
      (wpE_waitDma2_eq 𝒱₀ (c : Thread nD τ) none Set.univ) (Set.mem_univ _) () (O := 0) (W := W) (R := 0) (m := 0) (T := ∅)
      (by rw [Nat.zero_add, hN, expect_send])) $$ [Hc HO Hat]
  · isplitr; · iapply (know_inv A B K (c, some (false, r, li))); iexact HK
    isplitl [Hc]; · rw [hN]; iexact Hc
    isplitl [HO]; · iexact HO
    isplitr; · rw [MayWait_zero]; iempintro
    iexact Hat
  iintro ⟨HO, Hat, -, Hpay⟩
  imod (Rounds.cell_close ER (sched A B) (Set.mem_univ (K (c, some (false, r, li)))) (fun h => h) (R := 0 + 1) (duties_later A B (sendCell r li c))) $$ [Hat] with Hz
  · isplitr; · iapply (know_inv A B K (c, some (false, r, li))); iexact HK
    iexact Hat
  iapply Hk
  isplitl [Hz Hpay]
  · isplitl [Hz]; · iexact Hz
    iapply (Entails.of_eq (rest_send A B r li c)); iexact Hpay
  iexists _; iexact HO

omit [FloatOps F] in
/-- Every transfer is across one axis. -/
theorem by_axis (Φ : Fin 5 × Fin 6 → sProp 𝕄) : (bigSep Finset.univ fun b => bigSep (onAxis b) Φ) = bigSep Finset.univ Φ := by
  have h : ∀ b, bigSep (onAxis b) Φ = bigSep Finset.univ fun k => if axis (back k.1) k.2 = b then Φ k else iprop(emp) :=
    fun b => bigSep_filter _ _ _
  rw [bigSep_congr fun b _ => h b, bigSep_univ_comm]
  refine bigSep_congr fun k _ => ?_
  have e := bigSep_filter Finset.univ (fun b => axis (back k.1) k.2 = b) (fun _ => Φ k)
  rw [Finset.filter_eq, if_pos (Finset.mem_univ _), bigSep_singleton] at e
  exact e.symm

omit [FloatOps F] in
/-- The three neighbours' landing places are every partner's. -/
theorem barPay_all (c : Dev nD) : (bigSep Finset.univ fun d => barPay (F := F) c d)
    = bigSep Finset.univ fun k : Fin 5 × Fin 6 => landPay (F := F) k.1 k.2 (par k.1 k.2 c) := by
  rw [← by_axis]
  refine bigSep_congr fun b _ => bigSep_congr fun k hk => ?_
  unfold par
  rw [(Finset.mem_filter.mp hk).2]

/-- Signalling the neighbour across axis `b`: this device's landing places across that axis are handed over. -/
theorem wp_ready (b : Fin 3) (c : Dev nD) {n : Dev nD} (hn : n = flip b c) (O' O : CellTallies nD τ sig Unit)
    (hO : O' = O + tallyAt (barCell (flip b c)) () 1) {m : ℤ} (hm : m = 1)
    {α : Type} {Q : α → sProp 𝕄} {k : PUnit → Prog (TpuEff nD τ sig (Elt F) Λ₀ .tc) α} :
    iprop(Know A B K ∗ dutyTok ER (barCell (flip b c)) 0 b ∗ (bigSep (onAxis b) fun k => landPay (F := F) k.1 k.2 c) ∗ owesE (F := F) c O')
      ⊢ iprop((owesE (F := F) c O -∗ run c (k ⟨⟩) Q)
          -∗ run c (.op (.semSignal (Dev.tc n : Thread nD τ) barS m) k) Q) := by
  subst hn hm
  unfold owesE
  iintro ⟨#HK, Ht, Hl, ⟨%W, HO⟩⟩ Hk
  iapply (Rounds.wp_signal 𝒱₀ ER (sched A B) (c : Thread nD τ) none (dst := (flip b c : Thread nD τ)) (κ := K (flip b c, none))
      (d := b) (by rw [duties_bar]; exact Finset.mem_univ _) ((amount_bar A B (flip b c) b).trans (by decide)) () O hO)
    $$ [HO Ht Hl]
  · isplitr; · iapply (know_inv A B K (flip b c, none)); iexact HK
    isplitl [HO]; · iexact HO
    isplitl [Ht]; · iexact Ht
    isplitl [Hl]
    · rw [payload_bar]; unfold barPay; rw [flip_flip]; iexact Hl
    · iapply (know_reached A B K (flip b c, none)); iexact HK
  iintro HO
  iapply Hk
  iexists W; iexact HO

/-- Waiting for the three neighbours, owing the transfers: every partner's landing places. -/
theorem wp_barrier (c : Dev nD) {m : ℤ} (hm : m = 3)
    {α : Type} {Q : α → sProp 𝕄} {k : PUnit → Prog (TpuEff nD τ sig (Elt F) Λ₀ .tc) α} :
    iprop(Know A B K ∗ atPos ER (barCell c) 0 ∅ 0 ∗ cred (tallyAt (barCell c) () 3) ∗ owesE (F := F) c (Orem 0 c))
      ⊢ iprop(((semVal (barCell c) 0 ∗ (bigSep Finset.univ fun k : Fin 5 × Fin 6 => landPay (F := F) k.1 k.2 (par k.1 k.2 c)) ∗ owesE (F := F) c (Orem 0 c)) -∗ run c (k ⟨⟩) Q)
          -∗ run c (.op (.semWait barS m) k) Q) := by
  subst hm
  unfold owesE
  iintro ⟨#HK, Hat, Hc, ⟨%W, HO⟩⟩ Hk
  iapply (Rounds.wp_wait_rest_token 𝒱₀ ER (sched A B) (c : Thread nD τ) none (κ := K (c, none))
      (wpE_semWait_eq 𝒱₀ (c : Thread nD τ) none Set.univ) (Set.mem_univ _) () (O := Orem 0 c) (W := W) (R := 0) (m := 0) (T := ∅)
      (by rw [expect_bar])) $$ [Hc HO Hat]
  · isplitr; · iapply (know_inv A B K (c, none)); iexact HK
    isplitl [Hc]; · iexact Hc
    isplitl [HO]; · iexact HO
    isplitr; · iapply (mayWait_bar c); iapply (know_lev A B K); iexact HK
    iexact Hat
  iintro ⟨HO, Hat, -, Hpay⟩
  imod (Rounds.cell_close ER (sched A B) (Set.mem_univ (K (c, none))) (fun h => h) (R := 0 + 1) (duties_later A B (barCell c))) $$ [Hat] with Hz
  · isplitr; · iapply (know_inv A B K (c, none)); iexact HK
    iexact Hat
  iapply Hk
  isplitl [Hz]; · iexact Hz
  isplitl [Hpay]
  · ihave Hp := (Entails.of_eq (rest_bar A B c)) $$ Hpay
    iapply (Entails.of_eq (barPay_all c)); iexact Hp
  iexists _; iexact HO

end Steps

end Cert.KernelIdealProof

end
-- ==== Proof.KernelIdeal.Sends.lean ====
/-
# The five rounds' transfers

For each round, the transfer of a lane: what leaves is what the source holds, and what it leaves at the partner's
landing place is what the partner is to find there.
-/
module

public import proofs.«01_k».proof.Proof.KernelIdeal.Steps

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The views transfers use -/

/-- A lane of a six-lane buffer of 384 rows. -/
abbrev sq4 (m : Memref sig .tc .vmem S6x384x128 .bf16) (o : Fin 3 → ℕ) (inb : ∀ a, o a + S1x384x128.size a ≤ S6x384x128.size a) :
    Memref sig .tc .vmem S384x128 .bf16 :=
  (m.slice (Rect.unit (s := S6x384x128) o S1x384x128.size inb) (fun _ => rfl)).squeeze S384x128 squeezes_S1x384x128_S384x128
/-- Half the rows of such a lane. -/
abbrev sqQ (m : Memref sig .tc .vmem S6x384x128 .bf16) (o : Fin 3 → ℕ) (inb : ∀ a, o a + S1x192x128.size a ≤ S6x384x128.size a) :
    Memref sig .tc .vmem S192x128 .bf16 :=
  (m.slice (Rect.unit (s := S6x384x128) o S1x192x128.size inb) (fun _ => rfl)).squeeze S192x128 squeezes_S1x192x128_S192x128
/-- A lane of a six-lane buffer of 192 rows. -/
abbrev sq2 (m : Memref sig .tc .vmem S6x192x128 .bf16) (o : Fin 3 → ℕ) (inb : ∀ a, o a + S1x192x128.size a ≤ S6x192x128.size a) :
    Memref sig .tc .vmem S192x128 .bf16 :=
  (m.slice (Rect.unit (s := S6x192x128) o S1x192x128.size inb) (fun _ => rfl)).squeeze S192x128 squeezes_S1x192x128_S192x128
/-- The result's quarter of a lane. -/
abbrev slQ (o : Fin 2 → ℕ) (inb : ∀ a, o a + S192x128.size a ≤ S768x768.size a) : Memref sig .tc .vmem S192x128 .bf16 :=
  (Memref.whole cc0_stg2_0 : Memref sig .tc .vmem S768x768 .bf16).slice (Rect.unit (s := S768x768) o S192x128.size inb) (fun _ => rfl)
/-- The result's half of a lane. -/
abbrev slH (o : Fin 2 → ℕ) (inb : ∀ a, o a + S384x128.size a ≤ S768x768.size a) : Memref sig .tc .vmem S384x128 .bf16 :=
  (Memref.whole cc0_stg2_0 : Memref sig .tc .vmem S768x768 .bf16).slice (Rect.unit (s := S768x768) o S384x128.size inb) (fun _ => rfl)

section Sends

variable (A : Dev nD → Vec F S768x384 .bf16) (B : Dev nD → Vec F S384x768 .bf16) (K : Dev nD × CI → ℕ)

/-- Round 0: the partial product of the half the partner keeps. -/
theorem wp_send0 (li : Fin 6) (c : Dev nD) {o o' : Fin 3 → ℕ} (ho : o = ![li.val, 0, 0]) (ho' : o' = ![li.val, 0, 0]) {inb} {inb'}
    {n : Dev nD} (hn : n = par 0 li c) {sS sR : DmaSem sig} (hsS : sS = sendSem 0 li) (hsR : sR = recvSem 0 li)
    {hsc} {hsrc} {hdst} {hsem}
    {α : Type} {Q : α → sProp 𝕄} {k : PUnit → Prog (TpuEff nD τ sig (Elt F) Λ₀ .tc) α} :
    iprop(Know A B K ∗ snd (F := F) 0 li c ∗ pts c cc0_scratch5 (lane4 li) fullShare (sbG A B c) ∗ owesE (F := F) c (Orem (ord (0, li)) c))
      ⊢ iprop(((sent (F := F) 0 li c ∗ owesE (F := F) c (Orem (ord (0, li) + 1) c)) -∗ run c (k ⟨⟩) Q)
          -∗ run c (.op (.enqueueDma (sq4 (Memref.whole cc0_scratch5) o inb)
              (.remote (Dev.tc n : Thread nD τ) (sq4 (Memref.whole cc0_scratch6) o' inb') (.dma sS) hsc) (.dma sR) hsrc hdst hsem) k) Q) := by
  have hs : (sq4 (Memref.whole cc0_scratch5) o inb).view.set = lane4 li :=
    (View.set_reshape _ _).trans ((View.set_slice_whole _ _).trans (set_lane4 li ho))
  have hd : (sq4 (Memref.whole cc0_scratch6) o' inb').view.set = lane4 li :=
    (View.set_reshape _ _).trans ((View.set_slice_whole _ _).trans (set_lane4 li ho'))
  have h : ∀ x, (sq4 (Memref.whole cc0_scratch5) o inb).view.read (Elt F) (sbG A B c) x
      = (sq4 (Memref.whole cc0_scratch6) o' inb').view.read (Elt F) (rb0G A B (par 0 li c)) x := fun x => by
    show sbG A B c ((Rect.unit (s := S6x384x128) o S1x384x128.size inb).emb _)
      = rb0G A B (par 0 li c) ((Rect.unit (s := S6x384x128) o' S1x384x128.size inb').emb _)
    rw [emb_lane4 li ho, emb_lane4 li ho']
    show S0 A B c li (opp (hb li c)) _ _ = S0 A B (par 0 li (par 0 li c)) li (hb li (par 0 li c)) _ _
    rw [par_par, hb_par0']
  unfold snd landPay
  dsimp only [landAt]
  iintro ⟨#HK, ⟨Ht, ⟨%g4, %g2, %go, Hd⟩⟩, Hs, HO⟩ Hk
  iapply (wp_xfer A B K 0 li c hn hsS hsR fullShare (sbG A B c) g4 (fun _ => rfl) (by rw [hs]; exact .rfl)
    (rb0G A B (par 0 li c)) h (by rw [hd]; exact .rfl)) $$ [Ht Hs Hd HO]
  · isplitr; · iexact HK
    isplitl [Ht]; · iexact Ht
    isplitl [Hs]; · rw [hs]; iexact Hs
    isplitl [Hd]; · rw [hd]; iexact Hd
    iexact HO
  iexact Hk

/-- Round 1: the sums of two for the quarter the partner keeps. -/
theorem wp_send1 (li : Fin 6) (c : Dev nD) {o o' : Fin 3 → ℕ} (ho : o = ![li.val, (opp (qb li c)).val * 192, 0]) (ho' : o' = ![li.val, 0, 0]) {inb} {inb'}
    {n : Dev nD} (hn : n = par 1 li c) {sS sR : DmaSem sig} (hsS : sS = sendSem 1 li) (hsR : sR = recvSem 1 li)
    {hsc} {hsrc} {hdst} {hsem}
    {α : Type} {Q : α → sProp 𝕄} {k : PUnit → Prog (TpuEff nD τ sig (Elt F) Λ₀ .tc) α} :
    iprop(Know A B K ∗ snd (F := F) 1 li c ∗ pts c cc0_scratch3 (laneQ li (opp (qb li c))) fullShare (ab0G A B c) ∗ owesE (F := F) c (Orem (ord (1, li)) c))
      ⊢ iprop(((sent (F := F) 1 li c ∗ owesE (F := F) c (Orem (ord (1, li) + 1) c)) -∗ run c (k ⟨⟩) Q)
          -∗ run c (.op (.enqueueDma (sqQ (Memref.whole cc0_scratch3) o inb)
              (.remote (Dev.tc n : Thread nD τ) (sq2 (Memref.whole cc0_scratch7) o' inb') (.dma sS) hsc) (.dma sR) hsrc hdst hsem) k) Q) := by
  have hs : (sqQ (Memref.whole cc0_scratch3) o inb).view.set = laneQ li (opp (qb li c)) :=
    (View.set_reshape _ _).trans ((View.set_slice_whole _ _).trans (set_laneQ li _ ho))
  have hd : (sq2 (Memref.whole cc0_scratch7) o' inb').view.set = lane2 li :=
    (View.set_reshape _ _).trans ((View.set_slice_whole _ _).trans (set_lane2 li ho'))
  have h : ∀ x, (sqQ (Memref.whole cc0_scratch3) o inb).view.read (Elt F) (ab0G A B c) x
      = (sq2 (Memref.whole cc0_scratch7) o' inb').view.read (Elt F) (rb1G A B (par 1 li c)) x := fun x => by
    show ab0G A B c ((Rect.unit (s := S6x384x128) o S1x192x128.size inb).emb _)
      = rb1G A B (par 1 li c) ((Rect.unit (s := S6x192x128) o' S1x192x128.size inb').emb _)
    rw [emb_laneQ li _ ho, emb_lane2 li ho']
    show S1 A B c li (rowQ (opp (qb li c)) _) _ = S1 A B (par 1 li (par 1 li c)) li (rowQ (qb li (par 1 li c)) _) _
    rw [par_par, qb_par1']
  unfold snd landPay
  dsimp only [landAt]
  iintro ⟨#HK, ⟨Ht, ⟨%g4, %g2, %go, Hd⟩⟩, Hs, HO⟩ Hk
  iapply (wp_xfer A B K 1 li c hn hsS hsR fullShare (ab0G A B c) g2 (fun _ => rfl) (by rw [hs]; exact .rfl)
    (rb1G A B (par 1 li c)) h (by rw [hd]; exact .rfl)) $$ [Ht Hs Hd HO]
  · isplitr; · iexact HK
    isplitl [Ht]; · iexact Ht
    isplitl [Hs]; · rw [hs]; iexact Hs
    isplitl [Hd]; · rw [hd]; iexact Hd
    iexact HO
  iexact Hk

/-- Round 2: the sums of four; half the source's share, the other half staying for the next sum. -/
theorem wp_send2 (li : Fin 6) (c : Dev nD) {o o' : Fin 3 → ℕ} (ho : o = ![li.val, 0, 0]) (ho' : o' = ![li.val, 0, 0]) {inb} {inb'}
    {n : Dev nD} (hn : n = par 2 li c) {sS sR : DmaSem sig} (hsS : sS = sendSem 2 li) (hsR : sR = recvSem 2 li)
    {hsc} {hsrc} {hdst} {hsem}
    {α : Type} {Q : α → sProp 𝕄} {k : PUnit → Prog (TpuEff nD τ sig (Elt F) Λ₀ .tc) α} :
    iprop(Know A B K ∗ snd (F := F) 2 li c ∗ pts c cc0_scratch4 (lane2 li) qL (ab1G A B c) ∗ owesE (F := F) c (Orem (ord (2, li)) c))
      ⊢ iprop(((sent (F := F) 2 li c ∗ owesE (F := F) c (Orem (ord (2, li) + 1) c)) -∗ run c (k ⟨⟩) Q)
          -∗ run c (.op (.enqueueDma (sq2 (Memref.whole cc0_scratch4) o inb)
              (.remote (Dev.tc n : Thread nD τ) (sq2 (Memref.whole cc0_scratch8) o' inb') (.dma sS) hsc) (.dma sR) hsrc hdst hsem) k) Q) := by
  have hs : (sq2 (Memref.whole cc0_scratch4) o inb).view.set = lane2 li :=
    (View.set_reshape _ _).trans ((View.set_slice_whole _ _).trans (set_lane2 li ho))
  have hd : (sq2 (Memref.whole cc0_scratch8) o' inb').view.set = lane2 li :=
    (View.set_reshape _ _).trans ((View.set_slice_whole _ _).trans (set_lane2 li ho'))
  have h : ∀ x, (sq2 (Memref.whole cc0_scratch4) o inb).view.read (Elt F) (ab1G A B c) x
      = (sq2 (Memref.whole cc0_scratch8) o' inb').view.read (Elt F) (rb2G A B (par 2 li c)) x := fun x => by
    show ab1G A B c ((Rect.unit (s := S6x192x128) o S1x192x128.size inb).emb _)
      = rb2G A B (par 2 li c) ((Rect.unit (s := S6x192x128) o' S1x192x128.size inb').emb _)
    rw [emb_lane2 li ho, emb_lane2 li ho']
    show S2 A B c li _ _ = S2 A B (par 2 li (par 2 li c)) li _ _
    rw [par_par]
  unfold snd landPay
  dsimp only [landAt]
  iintro ⟨#HK, ⟨Ht, ⟨%g4, %g2, %go, Hd⟩⟩, Hs, HO⟩ Hk
  iapply (wp_xfer A B K 2 li c hn hsS hsR qL (ab1G A B c) g2 (fun _ => rfl) (by rw [hs]; exact .rfl)
    (rb2G A B (par 2 li c)) h (by rw [hd]; exact .rfl)) $$ [Ht Hs Hd HO]
  · isplitr; · iexact HK
    isplitl [Ht]; · iexact Ht
    isplitl [Hs]; · rw [hs]; iexact Hs
    isplitl [Hd]; · rw [hd]; iexact Hd
    iexact HO
  iexact Hk

/-- Round 3: the finished quarter, to the same place at the partner. -/
theorem wp_send3 (li : Fin 6) (c : Dev nD) {o : Fin 2 → ℕ} (ho : o = ![quarter li c * 192, 128 * li.val]) {inb} {inb'}
    {n : Dev nD} (hn : n = par 3 li c) {sS sR : DmaSem sig} (hsS : sS = sendSem 3 li) (hsR : sR = recvSem 3 li)
    {hsc} {hsrc} {hdst} {hsem}
    {α : Type} {Q : α → sProp 𝕄} {k : PUnit → Prog (TpuEff nD τ sig (Elt F) Λ₀ .tc) α} :
    iprop(Know A B K ∗ snd (F := F) 3 li c ∗ pts c cc0_stg2_0 (outQ li (hb li c) (qb li c)) qL (outG A B c) ∗ owesE (F := F) c (Orem (ord (3, li)) c))
      ⊢ iprop(((sent (F := F) 3 li c ∗ owesE (F := F) c (Orem (ord (3, li) + 1) c)) -∗ run c (k ⟨⟩) Q)
          -∗ run c (.op (.enqueueDma (slQ o inb)
              (.remote (Dev.tc n : Thread nD τ) (slQ o inb') (.dma sS) hsc) (.dma sR) hsrc hdst hsem) k) Q) := by
  have hs : (slQ o inb).view.set = outQ li (hb li c) (qb li c) := (View.set_slice_whole _ _).trans (set_outQ li c ho)
  have hd : (slQ o inb').view.set = outQ li (hb li (par 3 li c)) (opp (qb li (par 3 li c))) := by
    rw [hb_par3, qb_par3']; exact hs
  have h : ∀ x, (slQ o inb).view.read (Elt F) (outG A B c) x = (slQ o inb').view.read (Elt F) (outG A B (par 3 li c)) x := fun x => by
    show outG A B c ((Rect.unit (s := S768x768) o S192x128.size inb).emb x)
      = outG A B (par 3 li c) ((Rect.unit (s := S768x768) o S192x128.size inb').emb x)
    have h1 : (x 1).val < 128 := (x 1).isLt
    exact (outG_par3 A B li c _ (by rw [(emb_outQ li c ho x).2]; omega)).symm
  unfold snd landPay
  dsimp only [landAt]
  iintro ⟨#HK, ⟨Ht, ⟨%g4, %g2, %go, Hd⟩⟩, Hs, HO⟩ Hk
  iapply (wp_xfer A B K 3 li c hn hsS hsR qL (outG A B c) go (fun _ => rfl) (by rw [hs]; exact .rfl)
    (outG A B (par 3 li c)) h (by rw [hd]; exact .rfl)) $$ [Ht Hs Hd HO]
  · isplitr; · iexact HK
    isplitl [Ht]; · iexact Ht
    isplitl [Hs]; · rw [hs]; iexact Hs
    isplitl [Hd]; · rw [hd]; iexact Hd
    iexact HO
  iexact Hk

/-- Round 4: the finished half, to the same place at the partner. -/
theorem wp_send4 (li : Fin 6) (c : Dev nD) {o : Fin 2 → ℕ} (ho : o = ![(hb li c).val * 384, 128 * li.val]) {inb} {inb'}
    {n : Dev nD} (hn : n = par 4 li c) {sS sR : DmaSem sig} (hsS : sS = sendSem 4 li) (hsR : sR = recvSem 4 li)
    {hsc} {hsrc} {hdst} {hsem}
    {α : Type} {Q : α → sProp 𝕄} {k : PUnit → Prog (TpuEff nD τ sig (Elt F) Λ₀ .tc) α} :
    iprop(Know A B K ∗ snd (F := F) 4 li c ∗ pts c cc0_stg2_0 (outHalf li (hb li c)) qR (outG A B c) ∗ owesE (F := F) c (Orem (ord (4, li)) c))
      ⊢ iprop(((sent (F := F) 4 li c ∗ owesE (F := F) c (Orem (ord (4, li) + 1) c)) -∗ run c (k ⟨⟩) Q)
          -∗ run c (.op (.enqueueDma (slH o inb)
              (.remote (Dev.tc n : Thread nD τ) (slH o inb') (.dma sS) hsc) (.dma sR) hsrc hdst hsem) k) Q) := by
  have hs : (slH o inb).view.set = outHalf li (hb li c) := (View.set_slice_whole _ _).trans (set_outHalf li _ ho)
  have hd : (slH o inb').view.set = outHalf li (opp (hb li (par 4 li c))) := by
    rw [hb_par4']; exact hs
  have h : ∀ x, (slH o inb).view.read (Elt F) (outG A B c) x = (slH o inb').view.read (Elt F) (outG A B (par 4 li c)) x := fun x => by
    show outG A B c ((Rect.unit (s := S768x768) o S384x128.size inb).emb x)
      = outG A B (par 4 li c) ((Rect.unit (s := S768x768) o S384x128.size inb').emb x)
    have h1 : (x 1).val < 128 := (x 1).isLt
    refine (outG_par4 A B li c _ ?_).symm
    subst ho
    show (128 * li.val + 1 * (x 1).val) / 128 = li.val
    omega
  unfold snd landPay
  dsimp only [landAt]
  iintro ⟨#HK, ⟨Ht, ⟨%g4, %g2, %go, Hd⟩⟩, Hs, HO⟩ Hk
  iapply (wp_xfer A B K 4 li c hn hsS hsR qR (outG A B c) go (fun _ => rfl) (by rw [hs]; exact .rfl)
    (outG A B (par 4 li c)) h (by rw [hd]; exact .rfl)) $$ [Ht Hs Hd HO]
  · isplitr; · iexact HK
    isplitl [Ht]; · iexact Ht
    isplitl [Hs]; · rw [hs]; iexact Hs
    isplitl [Hd]; · rw [hd]; iexact Hd
    iexact HO
  iexact Hk

end Sends

end Cert.KernelIdealProof

end
-- ==== Proof.KernelIdeal.Phases.lean ====
/-
# A lane's phases

The kernel runs the same few effects for each of the six lanes: fill the sending buffer; receive, add and send on, three
times; then pass on a finished quarter and a finished half. Here is each of these sequences once, for a lane `li` on
a device `c`, with what the lane holds before it and after it.
-/
module

public import proofs.«01_k».proof.Proof.KernelIdeal.Sends

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Lanes worked off in order -/

/-- The lanes below `n` hold `g`, the others still `f`. -/
def upto (n : ℕ) (f g : Fin 6 → sProp 𝕄) : sProp 𝕄 := bigSep Finset.univ fun li => if li.val < n then g li else f li

omit [FloatOps F] in
theorem upto_zero (f g : Fin 6 → sProp 𝕄) : upto 0 f g = bigSep Finset.univ f :=
  bigSep_congr fun li _ => if_neg (Nat.not_lt_zero _)
omit [FloatOps F] in
theorem upto_end (f g : Fin 6 → sProp 𝕄) : upto 6 f g = bigSep Finset.univ g :=
  bigSep_congr fun li _ => if_pos li.isLt
omit [FloatOps F] in
/-- All lanes worked off by one phase are all lanes before the next. -/
theorem upto_next (f g h : Fin 6 → sProp 𝕄) : upto 6 f g = upto 0 g h := by rw [upto_end, upto_zero]

omit [FloatOps F] in
/-- Lane `li` next: what it holds, against what it is to hold. -/
theorem upto_step (li : Fin 6) (f g : Fin 6 → sProp 𝕄) : upto li.val f g ⊢ iprop(f li ∗ (g li -∗ upto (li.val + 1) f g)) := by
  unfold upto
  rw [bigSep_univ_at (fun j : Fin 6 => if j.val < li.val then g j else f j) li,
    bigSep_univ_at (fun j : Fin 6 => if j.val < li.val + 1 then g j else f j) li]
  rw [if_neg (Nat.lt_irrefl _), if_pos (Nat.lt_succ_self _),
    bigSep_congr (Φ := fun j : Fin 6 => if j.val < li.val then g j else f j) (Ψ := fun j : Fin 6 => if j.val < li.val + 1 then g j else f j)
      (fun j hj => by
        have hne : j.val ≠ li.val := fun h => (Finset.mem_erase.mp hj).1 (Fin.ext h)
        by_cases h : j.val < li.val
        · rw [if_pos h, if_pos (by omega)]
        · rw [if_neg h, if_neg (by omega)])]
  iintro ⟨H, HR⟩
  isplitl [H]; · iexact H
  iintro Hg
  isplitl [Hg]; · iexact Hg
  iexact HR

theorem axis0_eq (li : Fin 6) : axis 0 li = third li := by revert li; decide

section Phases

variable (A : Dev nD → Vec F S768x384 .bf16) (B : Dev nD → Vec F S384x768 .bf16) (K : Dev nD × CI → ℕ)

/-! ## Loads and stores -/

/-- A load off a buffer of the core's memory continues at what it reads. -/
theorem wp_ld (c : Dev nD) {s : Shape} {e : EltTy} {m : Memref sig .tc .vmem s e} {r : Rect s} {S : Finset (Idx (m.view.loc (c : Thread nD τ)))}
    {q : PosShare TreeShare} {f : Buf (Elt F) (m.view.loc (c : Thread nD τ))} (hS : m.view.setOn r.toLoadRect.set ⊆ S) {hl : m.view.LoadsAt r.toLoadRect}
    {X : r.toLoadRect.shape.Idx → Elt F e} (hX : m.view.readAt (Elt F) r.toLoadRect f = X)
    {α : Type} {Q : α → sProp 𝕄} {k : (r.toLoadRect.shape.Idx → Elt F e) → Prog (TpuEff nD τ sig (Elt F) Λ₀ .tc) α} :
    (m.view.loc (c : Thread nD τ) ↦[S]{q} f : sProp 𝕄)
      ⊢ iprop(((m.view.loc (c : Thread nD τ) ↦[S]{q} f) -∗ run c (k X) Q) -∗ run c (.op (.load m r.toLoadRect hl) k) Q) := by
  subst hX
  exact wp_load 𝒱₀ (c : Thread nD τ) none Set.univ (m := m) hS

/-- A store to elements held leaves what it wrote. -/
theorem wp_st (c : Dev nD) {s : Shape} {e : EltTy} {m : Memref sig .tc .vmem s e} {r : Rect s} {S : Finset (Idx ((m.access r).loc (c : Thread nD τ)))}
    {f : Buf (Elt F) ((m.access r).loc (c : Thread nD τ))} {w : r.shape.Idx → Elt F e} (G : sProp 𝕄)
    {hx : (m.access r).Stores Finset.univ} {hm : (Finset.univ : Finset r.shape.Idx) = Finset.univ ∨ ∀ a, r.stride a = 1}
    (hS : (m.access r).setOn Finset.univ ⊆ S) (hG : ((m.access r).loc (c : Thread nD τ) ↦[S]{fullShare} (m.access r).write (Elt F) f w Finset.univ) ⊢ G)
    {α : Type} {Q : α → sProp 𝕄} {k : PUnit → Prog (TpuEff nD τ sig (Elt F) Λ₀ .tc) α} :
    ((m.access r).loc (c : Thread nD τ) ↦[S]{fullShare} f : sProp 𝕄)
      ⊢ iprop((G -∗ run c (k ⟨⟩) Q) -∗ run c (.op (.store m r w Finset.univ hx hm) k) Q) :=
  (wp_store 𝒱₀ (c : Thread nD τ) none Set.univ (m := m) (r := r) (w := w) (Mk := Finset.univ) (hx := hx) (hm := hm) (f := f) hS).trans (wand_mono_left (wand_mono_left hG))

/-- The elements a load or a store through a rectangle of a whole buffer touches are the rectangle's. -/
theorem ld_sub (b : Ref sig .tc) (r : Rect b.ty.shape) {S : Finset b.ty.Idx} (h : r.set = S) :
    (Memref.whole b).view.setOn r.toLoadRect.set ⊆ S := ((View.set_slice _ _).symm.trans ((View.set_slice_whole b r).trans h)).subset
theorem st_sub (b : Ref sig .tc) (r : Rect b.ty.shape) {S : Finset b.ty.Idx} (h : r.set = S) :
    ((Memref.whole b).access r).setOn Finset.univ ⊆ S := ((View.set_slice_whole b r).trans h).subset
/-- A store of a function's values under the rectangle leaves the function. -/
theorem st_eq' (c : Dev nD) (b : Ref sig .tc) (r : Rect b.ty.shape) {S : Finset (Idx ((c : Thread nD τ).loc b))} (h : ∀ i ∈ S, i ∈ r.set)
    (f G : b.ty.Contents (Elt F)) (w : r.shape.Idx → Elt F b.ty.elt) (hw : ∀ y, w y = G (r.emb y)) :
    (((Memref.whole b).access r).loc (c : Thread nD τ) ↦[S]{fullShare} ((Memref.whole b).access r).write (Elt F) f w Finset.univ : sProp 𝕄)
      ⊢ pts c b S fullShare G :=
  Entails.of_eq (pointsTo_congr fun i hi => store_eq b r f G w hw i (h i hi))
theorem st_eq (c : Dev nD) (b : Ref sig .tc) (r : Rect b.ty.shape) {S : Finset b.ty.Idx} (h : r.set = S)
    (f G : b.ty.Contents (Elt F)) (w : r.shape.Idx → Elt F b.ty.elt) (hw : ∀ y, w y = G (r.emb y)) :
    (((Memref.whole b).access r).loc (c : Thread nD τ) ↦[S]{fullShare} ((Memref.whole b).access r).write (Elt F) f w Finset.univ : sProp 𝕄)
      ⊢ pts c b S fullShare G := st_eq' c b r (fun i hi => h.symm ▸ hi) f G w hw

/-! ## What a lane holds -/

/-- Before the first sum: what is due in round 0, room for the sum, the transfer of round 1. -/
def inA (li : Fin 6) (c : Dev nD) : sProp 𝕄 :=
  iprop(due (F := F) 0 li c ∗ (∃ f, pts c cc0_scratch3 (lane4 li) fullShare f) ∗ snd (F := F) 1 li c)
/-- After it: what came, the kept half of the sum, the transfer under way. -/
def outA (li : Fin 6) (c : Dev nD) : sProp 𝕄 :=
  iprop(semVal (recvCell 0 li c) 0 ∗ pts c cc0_scratch6 (lane4 li) fullShare (rb0G A B c)
    ∗ pts c cc0_scratch3 (laneQ li (qb li c)) fullShare (ab0G A B c) ∗ sent (F := F) 1 li c)
/-- Before the second sum. -/
def inB (li : Fin 6) (c : Dev nD) : sProp 𝕄 :=
  iprop(due (F := F) 1 li c ∗ (∃ f, pts c cc0_scratch4 (lane2 li) fullShare f) ∗ snd (F := F) 2 li c)
/-- After it: what came, half the share of the sum, the transfer under way. -/
def outB (li : Fin 6) (c : Dev nD) : sProp 𝕄 :=
  iprop(semVal (recvCell 1 li c) 0 ∗ pts c cc0_scratch7 (lane2 li) fullShare (rb1G A B c)
    ∗ pts c cc0_scratch4 (lane2 li) qR (ab1G A B c) ∗ sent (F := F) 2 li c)
/-- Before the third sum. -/
def inC (li : Fin 6) (c : Dev nD) : sProp 𝕄 :=
  iprop(due (F := F) 2 li c ∗ (∃ f, pts c cc0_stg2_0 (outQ li (hb li c) (qb li c)) fullShare f) ∗ snd (F := F) 3 li c)
/-- After it: what came, the transfer under way. -/
def outC (li : Fin 6) (c : Dev nD) : sProp 𝕄 :=
  iprop(semVal (recvCell 2 li c) 0 ∗ pts c cc0_scratch8 (lane2 li) fullShare (rb2G A B c) ∗ sent (F := F) 3 li c)
/-- And half the share of the finished quarter. -/
def quarterC (li : Fin 6) (c : Dev nD) : sProp 𝕄 := pts c cc0_stg2_0 (outQ li (hb li c) (qb li c)) qR (outG A B c)
/-- Before the other quarter comes. -/
def inD (li : Fin 6) (c : Dev nD) : sProp 𝕄 := iprop(due (F := F) 3 li c ∗ snd (F := F) 4 li c)
/-- After it: half the share of that quarter, the transfer of the whole half under way. -/
def outD (li : Fin 6) (c : Dev nD) : sProp 𝕄 :=
  iprop(semVal (recvCell 3 li c) 0 ∗ pts c cc0_stg2_0 (outQ li (hb li c) (opp (qb li c))) qL (outG A B c) ∗ sent (F := F) 4 li c)
/-- After the other half came. -/
def outE (li : Fin 6) (c : Dev nD) : sProp 𝕄 :=
  iprop(semVal (recvCell 4 li c) 0 ∗ pts c cc0_stg2_0 (outHalf li (opp (hb li c))) fullShare (outG A B c))

def stA (c : Dev nD) (li : Fin 6) : sProp 𝕄 := iprop(inA (F := F) li c ∗ inB (F := F) li c ∗ inC (F := F) li c ∗ inD (F := F) li c ∗ due (F := F) 4 li c)
def stB (c : Dev nD) (li : Fin 6) : sProp 𝕄 := iprop(outA A B li c ∗ inB (F := F) li c ∗ inC (F := F) li c ∗ inD (F := F) li c ∗ due (F := F) 4 li c)
def stC (c : Dev nD) (li : Fin 6) : sProp 𝕄 := iprop(outA A B li c ∗ outB A B li c ∗ inC (F := F) li c ∗ inD (F := F) li c ∗ due (F := F) 4 li c)
def stD (c : Dev nD) (li : Fin 6) : sProp 𝕄 := iprop(outA A B li c ∗ outB A B li c ∗ (outC A B li c ∗ quarterC A B li c) ∗ inD (F := F) li c ∗ due (F := F) 4 li c)
def stE (c : Dev nD) (li : Fin 6) : sProp 𝕄 := iprop(outA A B li c ∗ outB A B li c ∗ outC A B li c ∗ outD A B li c ∗ due (F := F) 4 li c)
def stF (c : Dev nD) (li : Fin 6) : sProp 𝕄 := iprop(outA A B li c ∗ outB A B li c ∗ outC A B li c ∗ outD A B li c ∗ outE A B li c)

/-! ## The sums -/

/-- What was kept and what came, added: the sum of two. -/
theorem sum2_eq (li : Fin 6) (c : Dev nD) {oK o o' : Fin 3 → ℕ} (hoK : oK = ![li.val / 2, 0, 128 * (li.val % 2)]) (ho : o = ![li.val, 0, 0])
    (ho' : o' = ![li.val, 0, 0]) {inbK} {inb} {inb'} (y : S1x384x128.Idx) :
    k0_pay16 (fun y => kG A B c ((Rect.unit (s := S3x384x256) oK S1x384x128.size inbK).emb y))
        (fun y => rb0G A B c ((Rect.unit (s := S6x384x128) o S1x384x128.size inb).emb y)) y
      = ab0G A B c ((Rect.unit (s := S6x384x128) o' S1x384x128.size inb').emb y) := by
  rw [pay16_apply, emb_laneK li hoK, emb_lane4 li ho, emb_lane4 li ho']
  show FloatOps.addf (part A B c (third li) (bit (third li) c) (at2 (y 1) (colS (side li) (y 2)))) (S0 A B (par 0 li c) li (hb li c) (y 1) (y 2))
    = FloatOps.addf (S0 A B c li (hb li c) (y 1) (y 2)) (S0 A B (par 0 li c) li (hb li c) (y 1) (y 2))
  rw [show hb li c = bit (third li) c from by unfold hb; rw [axis0_eq]]
  rfl

/-- The kept half of that and what came, added: the sum of four. -/
theorem sum4_eq (li : Fin 6) (c : Dev nD) {oA o o' : Fin 3 → ℕ} (hoA : oA = ![li.val, (qb li c).val * 192, 0]) (ho : o = ![li.val, 0, 0])
    (ho' : o' = ![li.val, 0, 0]) {inbA} {inb} {inb'} (y : S1x192x128.Idx) :
    k0_pay23 (k0_pay22 (fun y => ab0G A B c ((Rect.unit (s := S6x384x128) oA S1x192x128.size inbA).emb y))
        (fun y => rb1G A B c ((Rect.unit (s := S6x192x128) o S1x192x128.size inb).emb y))) y
      = ab1G A B c ((Rect.unit (s := S6x192x128) o' S1x192x128.size inb').emb y) := by
  rw [pay24_apply, emb_laneQ li _ hoA, emb_lane2 li ho, emb_lane2 li ho']
  rfl

/-- A device's own quarter of the result. -/
theorem outG_own (li : Fin 6) (c : Dev nD) (Y : S768x768.Idx) (r : Fin 192) (x : Fin 128) (hl : (Y 1).val / 128 = li.val)
    (hq : (Y 0).val / 192 = quarter li c) (hr : (Y 0).val % 192 = r.val) (hx : (Y 1).val % 128 = x.val) : outG A B c Y = S3 A B c li r x := by
  unfold outG
  rw [laneOf_eq hl, hq, owner_self, show rowIn (Y 0) = r from Fin.ext hr, show colIn (Y 1) = x from Fin.ext hx]

/-- That and what came, added: the sum of eight, in the result. -/
theorem sum8_eq (li : Fin 6) (c : Dev nD) {o o' : Fin 3 → ℕ} {oO : Fin 2 → ℕ} (ho : o = ![li.val, 0, 0]) (ho' : o' = ![li.val, 0, 0])
    (hoO : oO = ![quarter li c * 192, 128 * li.val]) {inb} {inb'} {inbO} (y : S192x128.Idx) :
    k0_pay29 (fun y => ab1G A B c ((Rect.unit (s := S6x192x128) o S1x192x128.size inb).emb y))
        (fun y => rb2G A B c ((Rect.unit (s := S6x192x128) o' S1x192x128.size inb').emb y)) y
      = outG A B c ((Rect.unit (s := S768x768) oO S192x128.size inbO).emb y) := by
  have h0 : (y 0).val < 192 := (y 0).isLt
  have h1 : (y 1).val < 128 := (y 1).isLt
  have e0 := (emb_outQ li c hoO (inb := inbO) y).1
  have e1 := (emb_outQ li c hoO (inb := inbO) y).2
  rw [pay29_apply, emb_lane2 li ho, emb_lane2 li ho']
  exact (outG_own A B li c _ (y 0) (y 1) (by rw [e1]; omega) (by rw [e0]; omega) (by rw [e0]; omega) (by rw [e1]; omega)).symm

/-! ## Halves -/

omit [FloatOps F] in
theorem ab0_split (li : Fin 6) (c : Dev nD) (f : Vec F S6x384x128 .bf16) :
    pts c cc0_scratch3 (lane4 li) fullShare f
      ⊣⊢ iprop(pts c cc0_scratch3 (laneQ li (qb li c)) fullShare f ∗ pts c cc0_scratch3 (laneQ li (opp (qb li c))) fullShare f) := by
  rw [← laneQ_union li (qb li c)]
  exact pointsTo_union (laneQ_disj li _)
omit [FloatOps F] in
theorem out_split (li : Fin 6) (h q : Fin 2) (c : Dev nD) (p : PosShare TreeShare) (f : Vec F S768x768 .bf16) :
    pts c cc0_stg2_0 (outHalf li h) p f ⊣⊢ iprop(pts c cc0_stg2_0 (outQ li h q) p f ∗ pts c cc0_stg2_0 (outQ li h (opp q)) p f) := by
  rw [← outQ_union li h q]
  exact pointsTo_union (outQ_disj li h q)

/-! ## The phases -/

/-- Round 0 comes, the sum of two is formed, the half the next partner keeps goes on. -/
theorem wp_phaseA (li : Fin 6) (c : Dev nD) {n n' : ℕ} (hn : n = ord (1, li)) (hn' : n' = n + 1)
    {oW oK oR oA oS oD : Fin 3 → ℕ} (hoK : oK = ![li.val / 2, 0, 128 * (li.val % 2)]) (hoR : oR = ![li.val, 0, 0])
    (hoA : oA = ![li.val, 0, 0]) (hoS : oS = ![li.val, (opp (qb li c)).val * 192, 0]) (hoD : oD = ![li.val, 0, 0])
    {inbW} {inbK} {inbR} {inbA} {inbS} {inbD}
    {d : Dev nD} (hd : d = par 1 li c) {sW sS sR : DmaSem sig} (hsW : sW = recvSem 0 li) (hsS : sS = sendSem 1 li) (hsR : sR = recvSem 1 li)
    {pf : Vec F S1x384x128 .bf16 → Vec F S1x384x128 .bf16 → Vec F S1x384x128 .bf16} (hpf : pf = k0_pay16)
    {src : Memref sig .tc .vmem S384x128 .bf16} {hw hw' hlK hlR hlA hx hm hsc hsrc hdst hsem}
    {α : Type} {Q : α → sProp 𝕄} {k : PUnit → Prog (TpuEff nD τ sig (Elt F) Λ₀ .tc) α} :
    iprop(Know A B K ∗ upto li.val (stA c) (stB A B c) ∗ pts c cc0_scratch2 Finset.univ fullShare (kG A B c) ∗ owesE (F := F) c (Orem n c))
      ⊢ iprop(((upto (li.val + 1) (stA c) (stB A B c) ∗ pts c cc0_scratch2 Finset.univ fullShare (kG A B c) ∗ owesE (F := F) c (Orem n' c)) -∗ run c (k ⟨⟩) Q)
          -∗ run c (.op (.waitDma2 sW src (sq4 (Memref.whole cc0_scratch6) oW inbW) hw hw') fun _ =>
            .op (.load (Memref.whole cc0_scratch2 : Memref sig .tc .vmem S3x384x256 .bf16) (Rect.unit (s := S3x384x256) oK S1x384x128.size inbK).toLoadRect hlK) fun (v : Vec F S1x384x128 .bf16) =>
            .op (.load (Memref.whole cc0_scratch6 : Memref sig .tc .vmem S6x384x128 .bf16) (Rect.unit (s := S6x384x128) oR S1x384x128.size inbR).toLoadRect hlR) fun (w : Vec F S1x384x128 .bf16) =>
            .op (.load (Memref.whole cc0_scratch3 : Memref sig .tc .vmem S6x384x128 .bf16) (Rect.unit (s := S6x384x128) oA S1x384x128.size inbA).toLoadRect hlA) fun (_ : Vec F S1x384x128 .bf16) =>
            .op (.store (Memref.whole cc0_scratch3 : Memref sig .tc .vmem S6x384x128 .bf16) (Rect.unit (s := S6x384x128) oA S1x384x128.size inbA) (pf v w) Finset.univ hx hm) fun _ =>
            .op (.enqueueDma (sqQ (Memref.whole cc0_scratch3) oS inbS)
              (.remote (Dev.tc d : Thread nD τ) (sq2 (Memref.whole cc0_scratch7) oD inbD) (.dma sS) hsc) (.dma sR) hsrc hdst hsem) k) Q) := by
  subst hn hn' hpf
  iintro ⟨#HK, HL, HB, HO⟩ Hk
  ihave HL' := (upto_step li (stA (F := F) c) (stB A B c)) $$ HL
  icases HL' with ⟨H, Hback⟩
  unfold stA inA
  icases H with ⟨⟨Hdue, ⟨%f, Ha⟩, Hsnd⟩, Hrest⟩
  iapply (wp_recv A B K 0 li (ord (1, li)) (by show 6 * 0 + 6 ≤ 6 * 1 + li.val; omega) c hsW rfl) $$ [Hdue HO]
  · isplitr; · iexact HK
    isplitl [Hdue]; · iexact Hdue
    iexact HO
  iintro ⟨Hz, Hr, HO⟩
  ihave Hr := (Entails.of_eq (show recvPay A B 0 li c = pts c cc0_scratch6 (lane4 li) fullShare (rb0G A B c) from rfl)) $$ Hr
  iapply (wp_ld c (m := Memref.whole cc0_scratch2) (Finset.subset_univ _) (readAt_whole_unit cc0_scratch2 _ _)) $$ HB
  iintro HB
  iapply (wp_ld c (m := Memref.whole cc0_scratch6) (ld_sub cc0_scratch6 _ (set_lane4 li hoR)) (readAt_whole_unit cc0_scratch6 _ _)) $$ Hr
  iintro Hr
  iapply (wp_ld c (m := Memref.whole cc0_scratch3) (ld_sub cc0_scratch3 _ (set_lane4 li hoA)) (readAt_whole_unit cc0_scratch3 _ _)) $$ Ha
  iintro Ha
  iapply (wp_st c (m := (Memref.whole cc0_scratch3 : Memref sig .tc .vmem S6x384x128 .bf16)) (r := Rect.unit (s := S6x384x128) oA S1x384x128.size inbA) (S := lane4 li) (f := f) (pts c cc0_scratch3 (lane4 li) fullShare (ab0G A B c))
    (st_sub cc0_scratch3 _ (set_lane4 li hoA)) (st_eq c cc0_scratch3 _ (set_lane4 li hoA) f (ab0G A B c) _ (sum2_eq A B li c hoK hoR hoA))) $$ Ha
  iintro Ha
  ihave Ha := (ab0_split (F := F) li c (ab0G A B c)).1 $$ Ha
  icases Ha with ⟨Hkeep, Hgo⟩
  iapply (wp_send1 A B K li c hoS hoD hd hsS hsR) $$ [Hsnd Hgo HO]
  · isplitr; · iexact HK
    isplitl [Hsnd]; · iexact Hsnd
    isplitl [Hgo]; · iexact Hgo
    iexact HO
  iintro ⟨Hsent, HO⟩
  iapply Hk
  isplitr [HB HO]
  · iapply Hback
    unfold stB outA
    isplitr [Hrest]
    · isplitl [Hz]; · iexact Hz
      isplitl [Hr]; · iexact Hr
      isplitl [Hkeep]; · iexact Hkeep
      iexact Hsent
    iexact Hrest
  isplitl [HB]; · iexact HB
  iexact HO

/-- Round 1 comes, the sum of four is formed and goes on. -/
theorem wp_phaseB (li : Fin 6) (c : Dev nD) {n n' : ℕ} (hn : n = ord (2, li)) (hn' : n' = n + 1)
    {oW oK oR oA oS oD : Fin 3 → ℕ} (hoK : oK = ![li.val, (qb li c).val * 192, 0]) (hoR : oR = ![li.val, 0, 0])
    (hoA : oA = ![li.val, 0, 0]) (hoS : oS = ![li.val, 0, 0]) (hoD : oD = ![li.val, 0, 0])
    {inbW} {inbK} {inbR} {inbA} {inbS} {inbD}
    {d : Dev nD} (hd : d = par 2 li c) {sW sS sR : DmaSem sig} (hsW : sW = recvSem 1 li) (hsS : sS = sendSem 2 li) (hsR : sR = recvSem 2 li)
    {pf : Vec F S1x192x128 .bf16 → Vec F S1x192x128 .bf16 → Vec F S1x192x128 .bf16} (hpf : pf = fun v w => k0_pay23 (k0_pay22 v w))
    {src : Memref sig .tc .vmem S192x128 .bf16} {hw hw' hlK hlR hlA hx hm hsc hsrc hdst hsem}
    {α : Type} {Q : α → sProp 𝕄} {k : PUnit → Prog (TpuEff nD τ sig (Elt F) Λ₀ .tc) α} :
    iprop(Know A B K ∗ upto li.val (stB A B c) (stC A B c) ∗ owesE (F := F) c (Orem n c))
      ⊢ iprop(((upto (li.val + 1) (stB A B c) (stC A B c) ∗ owesE (F := F) c (Orem n' c)) -∗ run c (k ⟨⟩) Q)
          -∗ run c (.op (.waitDma2 sW src (sq2 (Memref.whole cc0_scratch7) oW inbW) hw hw') fun _ =>
            .op (.load (Memref.whole cc0_scratch3 : Memref sig .tc .vmem S6x384x128 .bf16) (Rect.unit (s := S6x384x128) oK S1x192x128.size inbK).toLoadRect hlK) fun (v : Vec F S1x192x128 .bf16) =>
            .op (.load (Memref.whole cc0_scratch7 : Memref sig .tc .vmem S6x192x128 .bf16) (Rect.unit (s := S6x192x128) oR S1x192x128.size inbR).toLoadRect hlR) fun (w : Vec F S1x192x128 .bf16) =>
            .op (.load (Memref.whole cc0_scratch4 : Memref sig .tc .vmem S6x192x128 .bf16) (Rect.unit (s := S6x192x128) oA S1x192x128.size inbA).toLoadRect hlA) fun (_ : Vec F S1x192x128 .bf16) =>
            .op (.store (Memref.whole cc0_scratch4 : Memref sig .tc .vmem S6x192x128 .bf16) (Rect.unit (s := S6x192x128) oA S1x192x128.size inbA) (pf v w) Finset.univ hx hm) fun _ =>
            .op (.enqueueDma (sq2 (Memref.whole cc0_scratch4) oS inbS)
              (.remote (Dev.tc d : Thread nD τ) (sq2 (Memref.whole cc0_scratch8) oD inbD) (.dma sS) hsc) (.dma sR) hsrc hdst hsem) k) Q) := by
  subst hn hn' hpf
  iintro ⟨#HK, HL, HO⟩ Hk
  ihave HL' := (upto_step li (stB A B c) (stC A B c)) $$ HL
  icases HL' with ⟨H, Hback⟩
  unfold stB inB outA
  icases H with ⟨⟨Hz0, Hr0, Hkeep, Hsent1⟩, ⟨Hdue, ⟨%f, Ha⟩, Hsnd⟩, Hrest⟩
  iapply (wp_recv A B K 1 li (ord (2, li)) (by show 6 * 1 + 6 ≤ 6 * 2 + li.val; omega) c hsW rfl) $$ [Hdue HO]
  · isplitr; · iexact HK
    isplitl [Hdue]; · iexact Hdue
    iexact HO
  iintro ⟨Hz, Hr, HO⟩
  ihave Hr := (Entails.of_eq (show recvPay A B 1 li c = pts c cc0_scratch7 (lane2 li) fullShare (rb1G A B c) from rfl)) $$ Hr
  iapply (wp_ld c (m := Memref.whole cc0_scratch3) (ld_sub cc0_scratch3 _ (set_laneQ li _ hoK)) (readAt_whole_unit cc0_scratch3 _ _)) $$ Hkeep
  iintro Hkeep
  iapply (wp_ld c (m := Memref.whole cc0_scratch7) (ld_sub cc0_scratch7 _ (set_lane2 li hoR)) (readAt_whole_unit cc0_scratch7 _ _)) $$ Hr
  iintro Hr
  iapply (wp_ld c (m := Memref.whole cc0_scratch4) (ld_sub cc0_scratch4 _ (set_lane2 li hoA)) (readAt_whole_unit cc0_scratch4 _ _)) $$ Ha
  iintro Ha
  iapply (wp_st c (m := (Memref.whole cc0_scratch4 : Memref sig .tc .vmem S6x192x128 .bf16)) (r := Rect.unit (s := S6x192x128) oA S1x192x128.size inbA) (S := lane2 li) (f := f) (pts c cc0_scratch4 (lane2 li) fullShare (ab1G A B c))
    (st_sub cc0_scratch4 _ (set_lane2 li hoA)) (st_eq c cc0_scratch4 _ (set_lane2 li hoA) f (ab1G A B c) _ (sum4_eq A B li c hoK hoR hoA))) $$ Ha
  iintro Ha
  ihave Ha := (pts_halves c cc0_scratch4 (lane2 li) (ab1G A B c)).1 $$ Ha
  icases Ha with ⟨Hgo, Hmine⟩
  iapply (wp_send2 A B K li c hoS hoD hd hsS hsR) $$ [Hsnd Hgo HO]
  · isplitr; · iexact HK
    isplitl [Hsnd]; · iexact Hsnd
    isplitl [Hgo]; · iexact Hgo
    iexact HO
  iintro ⟨Hsent, HO⟩
  iapply Hk
  isplitr [HO]
  · iapply Hback
    unfold stC outB outA
    isplitl [Hz0 Hr0 Hkeep Hsent1]
    · isplitl [Hz0]; · iexact Hz0
      isplitl [Hr0]; · iexact Hr0
      isplitl [Hkeep]; · iexact Hkeep
      iexact Hsent1
    isplitr [Hrest]
    · isplitl [Hz]; · iexact Hz
      isplitl [Hr]; · iexact Hr
      isplitl [Hmine]; · iexact Hmine
      iexact Hsent
    iexact Hrest
  iexact HO

/-- Round 2 comes, the sum of eight is formed in the result and goes on. -/
theorem wp_phaseC (li : Fin 6) (c : Dev nD) {n n' : ℕ} (hn : n = ord (3, li)) (hn' : n' = n + 1)
    {oW oK oR : Fin 3 → ℕ} {oA oS : Fin 2 → ℕ} (hoK : oK = ![li.val, 0, 0]) (hoR : oR = ![li.val, 0, 0])
    (hoA : oA = ![quarter li c * 192, 128 * li.val]) (hoS : oS = ![quarter li c * 192, 128 * li.val])
    {inbW} {inbK} {inbR} {inbA} {inbS} {inbD}
    {d : Dev nD} (hd : d = par 3 li c) {sW sS sR : DmaSem sig} (hsW : sW = recvSem 2 li) (hsS : sS = sendSem 3 li) (hsR : sR = recvSem 3 li)
    {pf : Vec F S1x192x128 .bf16 → Vec F S1x192x128 .bf16 → Vec F S192x128 .bf16} (hpf : pf = k0_pay29)
    {src : Memref sig .tc .vmem S192x128 .bf16} {hw hw' hlK hlR hlA hx hm hsc hsrc hdst hsem}
    {α : Type} {Q : α → sProp 𝕄} {k : PUnit → Prog (TpuEff nD τ sig (Elt F) Λ₀ .tc) α} :
    iprop(Know A B K ∗ upto li.val (stC A B c) (stD A B c) ∗ owesE (F := F) c (Orem n c))
      ⊢ iprop(((upto (li.val + 1) (stC A B c) (stD A B c) ∗ owesE (F := F) c (Orem n' c)) -∗ run c (k ⟨⟩) Q)
          -∗ run c (.op (.waitDma2 sW src (sq2 (Memref.whole cc0_scratch8) oW inbW) hw hw') fun _ =>
            .op (.load (Memref.whole cc0_scratch4 : Memref sig .tc .vmem S6x192x128 .bf16) (Rect.unit (s := S6x192x128) oK S1x192x128.size inbK).toLoadRect hlK) fun (v : Vec F S1x192x128 .bf16) =>
            .op (.load (Memref.whole cc0_scratch8 : Memref sig .tc .vmem S6x192x128 .bf16) (Rect.unit (s := S6x192x128) oR S1x192x128.size inbR).toLoadRect hlR) fun (w : Vec F S1x192x128 .bf16) =>
            .op (.load (Memref.whole cc0_stg2_0 : Memref sig .tc .vmem S768x768 .bf16) (Rect.unit (s := S768x768) oA S192x128.size inbA).toLoadRect hlA) fun (_ : Vec F S192x128 .bf16) =>
            .op (.store (Memref.whole cc0_stg2_0 : Memref sig .tc .vmem S768x768 .bf16) (Rect.unit (s := S768x768) oA S192x128.size inbA) (pf v w) Finset.univ hx hm) fun _ =>
            .op (.enqueueDma (slQ oS inbS) (.remote (Dev.tc d : Thread nD τ) (slQ oS inbD) (.dma sS) hsc) (.dma sR) hsrc hdst hsem) k) Q) := by
  subst hn hn' hpf
  iintro ⟨#HK, HL, HO⟩ Hk
  ihave HL' := (upto_step li (stC A B c) (stD A B c)) $$ HL
  icases HL' with ⟨H, Hback⟩
  unfold stC inC outB
  icases H with ⟨H0, ⟨Hz1, Hr1, Hmine, Hsent2⟩, ⟨Hdue, ⟨%f, Ha⟩, Hsnd⟩, Hrest⟩
  iapply (wp_recv A B K 2 li (ord (3, li)) (by show 6 * 2 + 6 ≤ 6 * 3 + li.val; omega) c hsW rfl) $$ [Hdue HO]
  · isplitr; · iexact HK
    isplitl [Hdue]; · iexact Hdue
    iexact HO
  iintro ⟨Hz, Hr, HO⟩
  ihave Hr := (Entails.of_eq (show recvPay A B 2 li c = pts c cc0_scratch8 (lane2 li) fullShare (rb2G A B c) from rfl)) $$ Hr
  iapply (wp_ld c (m := Memref.whole cc0_scratch4) (ld_sub cc0_scratch4 _ (set_lane2 li hoK)) (readAt_whole_unit cc0_scratch4 _ _)) $$ Hmine
  iintro Hmine
  iapply (wp_ld c (m := Memref.whole cc0_scratch8) (ld_sub cc0_scratch8 _ (set_lane2 li hoR)) (readAt_whole_unit cc0_scratch8 _ _)) $$ Hr
  iintro Hr
  iapply (wp_ld c (m := Memref.whole cc0_stg2_0) (ld_sub cc0_stg2_0 _ (set_outQ li c hoA)) (readAt_whole_unit cc0_stg2_0 _ _)) $$ Ha
  iintro Ha
  iapply (wp_st c (m := (Memref.whole cc0_stg2_0 : Memref sig .tc .vmem S768x768 .bf16)) (r := Rect.unit (s := S768x768) oA S192x128.size inbA) (S := outQ li (hb li c) (qb li c)) (f := f) (pts c cc0_stg2_0 (outQ li (hb li c) (qb li c)) fullShare (outG A B c))
    (st_sub cc0_stg2_0 _ (set_outQ li c hoA)) (st_eq c cc0_stg2_0 _ (set_outQ li c hoA) f (outG A B c) _ (sum8_eq A B li c hoK hoR hoA))) $$ Ha
  iintro Ha
  ihave Ha := (pts_halves c cc0_stg2_0 (outQ li (hb li c) (qb li c)) (outG A B c)).1 $$ Ha
  icases Ha with ⟨Hgo, Hstay⟩
  iapply (wp_send3 A B K li c hoS hd hsS hsR) $$ [Hsnd Hgo HO]
  · isplitr; · iexact HK
    isplitl [Hsnd]; · iexact Hsnd
    isplitl [Hgo]; · iexact Hgo
    iexact HO
  iintro ⟨Hsent, HO⟩
  iapply Hk
  isplitr [HO]
  · iapply Hback
    unfold stD outC quarterC outB
    isplitl [H0]; · iexact H0
    isplitl [Hz1 Hr1 Hmine Hsent2]
    · isplitl [Hz1]; · iexact Hz1
      isplitl [Hr1]; · iexact Hr1
      isplitl [Hmine]; · iexact Hmine
      iexact Hsent2
    isplitr [Hrest]
    · isplitr [Hstay]
      · isplitl [Hz]; · iexact Hz
        isplitl [Hr]; · iexact Hr
        iexact Hsent
      iexact Hstay
    iexact Hrest
  iexact HO

/-- Round 3 brings the other quarter, and the half goes on. -/
theorem wp_phaseD (li : Fin 6) (c : Dev nD) {n n' : ℕ} (hn : n = ord (4, li)) (hn' : n' = n + 1)
    {oW oS : Fin 2 → ℕ} (hoS : oS = ![(hb li c).val * 384, 128 * li.val]) {inbW} {inbS} {inbD}
    {d : Dev nD} (hd : d = par 4 li c) {sW sS sR : DmaSem sig} (hsW : sW = recvSem 3 li) (hsS : sS = sendSem 4 li) (hsR : sR = recvSem 4 li)
    {src : Memref sig .tc .vmem S192x128 .bf16} {hw hw' hsc hsrc hdst hsem}
    {α : Type} {Q : α → sProp 𝕄} {k : PUnit → Prog (TpuEff nD τ sig (Elt F) Λ₀ .tc) α} :
    iprop(Know A B K ∗ upto li.val (stD A B c) (stE A B c) ∗ owesE (F := F) c (Orem n c))
      ⊢ iprop(((upto (li.val + 1) (stD A B c) (stE A B c) ∗ owesE (F := F) c (Orem n' c)) -∗ run c (k ⟨⟩) Q)
          -∗ run c (.op (.waitDma2 sW src (slQ oW inbW) hw hw') fun _ =>
            .op (.enqueueDma (slH oS inbS) (.remote (Dev.tc d : Thread nD τ) (slH oS inbD) (.dma sS) hsc) (.dma sR) hsrc hdst hsem) k) Q) := by
  subst hn hn'
  iintro ⟨#HK, HL, HO⟩ Hk
  ihave HL' := (upto_step li (stD A B c) (stE A B c)) $$ HL
  icases HL' with ⟨H, Hback⟩
  unfold stD inD quarterC
  icases H with ⟨H0, H1, ⟨H2, Hstay⟩, ⟨Hdue, Hsnd⟩, Hrest⟩
  iapply (wp_recv A B K 3 li (ord (4, li)) (by show 6 * 3 + 6 ≤ 6 * 4 + li.val; omega) c hsW rfl) $$ [Hdue HO]
  · isplitr; · iexact HK
    isplitl [Hdue]; · iexact Hdue
    iexact HO
  iintro ⟨Hz, Hr, HO⟩
  ihave Hr := (Entails.of_eq (show recvPay A B 3 li c = pts c cc0_stg2_0 (outQ li (hb li c) (opp (qb li c))) fullShare (outG A B c) from rfl)) $$ Hr
  ihave Hr := (pts_halves c cc0_stg2_0 (outQ li (hb li c) (opp (qb li c))) (outG A B c)).1 $$ Hr
  icases Hr with ⟨Hl, Hgo⟩
  iapply (wp_send4 A B K li c hoS hd hsS hsR) $$ [Hsnd Hgo Hstay HO]
  · isplitr; · iexact HK
    isplitl [Hsnd]; · iexact Hsnd
    isplitl [Hgo Hstay]
    · iapply (out_split (F := F) li (hb li c) (qb li c) c qR (outG A B c)).2
      isplitl [Hstay]; · iexact Hstay
      iexact Hgo
    iexact HO
  iintro ⟨Hsent, HO⟩
  iapply Hk
  isplitr [HO]
  · iapply Hback
    unfold stE outD
    isplitl [H0]; · iexact H0
    isplitl [H1]; · iexact H1
    isplitl [H2]; · iexact H2
    isplitr [Hrest]
    · isplitl [Hz]; · iexact Hz
      isplitl [Hl]; · iexact Hl
      iexact Hsent
    iexact Hrest
  iexact HO

/-- Round 4 brings the other half. -/
theorem wp_phaseE (li : Fin 6) (c : Dev nD) {oW : Fin 2 → ℕ} {inbW} {sW : DmaSem sig} (hsW : sW = recvSem 4 li)
    {src : Memref sig .tc .vmem S384x128 .bf16} {hw hw'}
    {α : Type} {Q : α → sProp 𝕄} {k : PUnit → Prog (TpuEff nD τ sig (Elt F) Λ₀ .tc) α} :
    iprop(Know A B K ∗ upto li.val (stE A B c) (stF A B c) ∗ owesE (F := F) c (Orem 30 c))
      ⊢ iprop(((upto (li.val + 1) (stE A B c) (stF A B c) ∗ owesE (F := F) c (Orem 30 c)) -∗ run c (k ⟨⟩) Q)
          -∗ run c (.op (.waitDma2 sW src (slH oW inbW) hw hw') k) Q) := by
  iintro ⟨#HK, HL, HO⟩ Hk
  ihave HL' := (upto_step li (stE A B c) (stF A B c)) $$ HL
  icases HL' with ⟨H, Hback⟩
  unfold stE
  icases H with ⟨H0, H1, H2, H3, Hdue⟩
  iapply (wp_recv A B K 4 li 30 (by show 6 * 4 + 6 ≤ 30; omega) c hsW rfl) $$ [Hdue HO]
  · isplitr; · iexact HK
    isplitl [Hdue]; · iexact Hdue
    iexact HO
  iintro ⟨Hz, Hr, HO⟩
  ihave Hr := (Entails.of_eq (show recvPay A B 4 li c = pts c cc0_stg2_0 (outHalf li (opp (hb li c))) fullShare (outG A B c) from rfl)) $$ Hr
  iapply Hk
  isplitr [HO]
  · iapply Hback
    unfold stF outE
    isplitl [H0]; · iexact H0
    isplitl [H1]; · iexact H1
    isplitl [H2]; · iexact H2
    isplitl [H3]; · iexact H3
    isplitl [Hz]; · iexact Hz
    iexact Hr
  iexact HO

end Phases

end Cert.KernelIdealProof

end
-- ==== Proof.KernelIdeal.Fill.lean ====
/-
# Filling the sending buffer; keeping the other half

The operands are copied to the buffers the products read; then, for each third of the columns, the product of the rows the
partner keeps goes to two lanes of the sending buffer, and the product of the rows this device keeps to the buffer it
adds from.
-/
module

public import proofs.«01_k».proof.Proof.KernelIdeal.Phases

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- All six lanes, one by one. -/
theorem lanes_eq (Φ : Fin 6 → sProp 𝕄) : bigSep Finset.univ Φ = iprop(Φ 0 ∗ Φ 1 ∗ Φ 2 ∗ Φ 3 ∗ Φ 4 ∗ Φ 5) := by
  rw [show (Finset.univ : Finset (Fin 6)) = insert 0 (insert 1 (insert 2 (insert 3 (insert 4 {5})))) from by decide,
    bigSep_insert (by decide), bigSep_insert (by decide), bigSep_insert (by decide), bigSep_insert (by decide), bigSep_insert (by decide), bigSep_singleton]
  rfl
omit [FloatOps F] in
/-- All three thirds, one by one. -/
theorem thirds_eq (Φ : Fin 3 → sProp 𝕄) : bigSep Finset.univ Φ = iprop(Φ 0 ∗ Φ 1 ∗ Φ 2) := by
  rw [show (Finset.univ : Finset (Fin 3)) = insert 0 (insert 1 {2}) from by decide, bigSep_insert (by decide), bigSep_insert (by decide), bigSep_singleton]
  rfl

section Fill

variable (A : Dev nD → Vec F S768x384 .bf16) (B : Dev nD → Vec F S384x768 .bf16) (K : Dev nD × CI → ℕ)

theorem mem_allA {o : Fin 2 → ℕ} (ho : o = ![0, 0]) {inb} (i : S768x384.Idx) : i ∈ (Rect.unit (s := S768x384) o S768x384.size inb).set := by
  subst ho
  have h0 : (i 0).val < 768 := (i 0).isLt
  have h1 : (i 1).val < 384 := (i 1).isLt
  simp only [Rect.mem_set_unit, Fin.forall_fin_succ]
  simp [S768x384]
  omega
theorem mem_allB {o : Fin 2 → ℕ} (ho : o = ![0, 0]) {inb} (i : S384x768.Idx) : i ∈ (Rect.unit (s := S384x768) o S384x768.size inb).set := by
  subst ho
  have h0 : (i 0).val < 384 := (i 0).isLt
  have h1 : (i 1).val < 768 := (i 1).isLt
  simp only [Rect.mem_set_unit, Fin.forall_fin_succ]
  simp [S384x768]
  omega

theorem rows_read (c : Dev nD) (h : Fin 2) {o : Fin 2 → ℕ} (ho : o = ![h.val * 384, 0]) {inb} :
    (fun y => A c ((Rect.unit (s := S768x384) o S384x384.size inb).emb y)) = rowsOf A c h := funext fun y => by rw [emb_rows _ ho]; rfl
theorem cols_read (c : Dev nD) (j : Fin 3) {o : Fin 2 → ℕ} (ho : o = ![0, j.val * 256]) {inb} :
    (fun y => B c ((Rect.unit (s := S384x768) o S384x256.size inb).emb y)) = colsOf B c j := funext fun y => by rw [emb_cols _ ho]; rfl

theorem copyA_eq (c : Dev nD) {o o' : Fin 2 → ℕ} (ho : o = ![0, 0]) (ho' : o' = ![0, 0]) {inb} {inb'} (y : S768x384.Idx) :
    k0_pay1 (fun y => A c ((Rect.unit (s := S768x384) o S768x384.size inb).emb y)) y = A c ((Rect.unit (s := S768x384) o' S768x384.size inb').emb y) := by
  subst ho ho'
  unfold k0_pay1
  rw [shapeCast_shapeCast]

theorem copyB_eq (c : Dev nD) {o o' : Fin 2 → ℕ} (ho : o = ![0, 0]) (ho' : o' = ![0, 0]) {inb} {inb'} (y : S384x768.Idx) :
    k0_pay2 (fun y => B c ((Rect.unit (s := S384x768) o S384x768.size inb).emb y)) y = B c ((Rect.unit (s := S384x768) o' S384x768.size inb').emb y) := by
  subst ho ho'
  unfold k0_pay2
  rw [shapeCast_shapeCast]

/-- What is stored as a lane of the sending buffer: the even lane of a third. -/
theorem fill0_eq (j : Fin 3) (li : Fin 6) (hli : li.val = 2 * j.val) (c : Dev nD) {oR oC : Fin 2 → ℕ} {o : Fin 3 → ℕ}
    (hoR : oR = ![(opp (bit j c)).val * 384, 0]) (hoC : oC = ![0, j.val * 256]) (ho : o = ![li.val, 0, 0]) {inbR} {inbC} {inb} (y : S1x384x128.Idx) :
    k0_pay8 (fun y => A c ((Rect.unit (s := S768x384) oR S384x384.size inbR).emb y)) (fun y => B c ((Rect.unit (s := S384x768) oC S384x256.size inbC).emb y)) y
      = sbG A B c ((Rect.unit (s := S6x384x128) o S1x384x128.size inb).emb y) := by
  have ht : third li = j := Fin.ext (by show li.val / 2 = j.val; omega)
  have hs : side li = 0 := Fin.ext (by show li.val % 2 = 0; omega)
  refine (congrFun (congrArg₂ k0_pay8 (rows_read A c _ hoR) (cols_read B c _ hoC)) y).trans ?_
  rw [pay8_apply, emb_lane4 li ho]
  show _ = S0 A B c li (opp (hb li c)) (y 1) (y 2)
  unfold S0 hb
  rw [axis0_eq, ht, hs]
  rfl
/-- The odd lane. -/
theorem fill1_eq (j : Fin 3) (li : Fin 6) (hli : li.val = 2 * j.val + 1) (c : Dev nD) {oR oC : Fin 2 → ℕ} {o : Fin 3 → ℕ}
    (hoR : oR = ![(opp (bit j c)).val * 384, 0]) (hoC : oC = ![0, j.val * 256]) (ho : o = ![li.val, 0, 0]) {inbR} {inbC} {inb} (y : S1x384x128.Idx) :
    k0_pay9 (fun y => A c ((Rect.unit (s := S768x384) oR S384x384.size inbR).emb y)) (fun y => B c ((Rect.unit (s := S384x768) oC S384x256.size inbC).emb y)) y
      = sbG A B c ((Rect.unit (s := S6x384x128) o S1x384x128.size inb).emb y) := by
  have ht : third li = j := Fin.ext (by show li.val / 2 = j.val; omega)
  have hs : side li = 1 := Fin.ext (by show li.val % 2 = 1; omega)
  refine (congrFun (congrArg₂ k0_pay9 (rows_read A c _ hoR) (cols_read B c _ hoC)) y).trans ?_
  rw [pay9_apply, emb_lane4 li ho]
  show _ = S0 A B c li (opp (hb li c)) (y 1) (y 2)
  unfold S0 hb
  rw [axis0_eq, ht, hs]
  rfl
/-- What is kept. -/
theorem keep_eq (j : Fin 3) (c : Dev nD) {oR oC : Fin 2 → ℕ} {o : Fin 3 → ℕ}
    (hoR : oR = ![(bit j c).val * 384, 0]) (hoC : oC = ![0, j.val * 256]) (ho : o = ![j.val, 0, 0]) {inbR} {inbC} {inb} (y : S1x384x256.Idx) :
    k0_pay13 (fun y => A c ((Rect.unit (s := S768x384) oR S384x384.size inbR).emb y)) (fun y => B c ((Rect.unit (s := S384x768) oC S384x256.size inbC).emb y)) y
      = kG A B c ((Rect.unit (s := S3x384x256) o S1x384x256.size inb).emb y) := by
  refine (congrFun (congrArg₂ k0_pay13 (rows_read A c _ hoR) (cols_read B c _ hoC)) y).trans ?_
  rw [pay13_apply, emb_thirdK j ho]
  rfl

/-- The left operand's block, copied. -/
theorem wp_copyA (c : Dev nD) {o o' o'' : Fin 2 → ℕ} (ho : o = ![0, 0]) (ho' : o' = ![0, 0]) (ho'' : o'' = ![0, 0]) {inb} {inb'} {inb''} {hl hl' hx hm}
    {α : Type} {Q : α → sProp 𝕄} {k : PUnit → Prog (TpuEff nD τ sig (Elt F) Λ₀ .tc) α} :
    iprop(pts c cc0_stg0_0 Finset.univ fullShare (A c) ∗ (∃ f, pts c cc0_scratch0 Finset.univ fullShare f))
      ⊢ iprop(((pts c cc0_stg0_0 Finset.univ fullShare (A c) ∗ pts c cc0_scratch0 Finset.univ fullShare (A c)) -∗ run c (k ⟨⟩) Q)
          -∗ run c (.op (.load (Memref.whole cc0_stg0_0 : Memref sig .tc .vmem S768x384 .bf16) (Rect.unit (s := S768x384) o S768x384.size inb).toLoadRect hl) fun (v : Vec F S768x384 .bf16) =>
            .op (.load (Memref.whole cc0_scratch0 : Memref sig .tc .vmem S768x384 .bf16) (Rect.unit (s := S768x384) o' S768x384.size inb').toLoadRect hl') fun (_ : Vec F S768x384 .bf16) =>
            .op (.store (Memref.whole cc0_scratch0 : Memref sig .tc .vmem S768x384 .bf16) (Rect.unit (s := S768x384) o'' S768x384.size inb'') (k0_pay1 v) Finset.univ hx hm) k) Q) := by
  iintro ⟨Hx, ⟨%f, Ha⟩⟩ Hk
  iapply (wp_ld c (m := Memref.whole cc0_stg0_0) (Finset.subset_univ _) (readAt_whole_unit cc0_stg0_0 _ _)) $$ Hx
  iintro Hx
  iapply (wp_ld c (m := Memref.whole cc0_scratch0) (Finset.subset_univ _) (readAt_whole_unit cc0_scratch0 _ _)) $$ Ha
  iintro Ha
  iapply (wp_st c (m := (Memref.whole cc0_scratch0 : Memref sig .tc .vmem S768x384 .bf16)) (r := Rect.unit (s := S768x384) o'' S768x384.size inb'') (f := f) (pts c cc0_scratch0 Finset.univ fullShare (A c))
    (Finset.subset_univ _) (st_eq' c cc0_scratch0 _ (fun i _ => mem_allA ho'' i) f (A c) _ (copyA_eq A c ho ho''))) $$ Ha
  iintro Ha
  iapply Hk
  isplitl [Hx]; · iexact Hx
  iexact Ha
/-- The right operand's block, copied. -/
theorem wp_copyB (c : Dev nD) {o o' o'' : Fin 2 → ℕ} (ho : o = ![0, 0]) (ho' : o' = ![0, 0]) (ho'' : o'' = ![0, 0]) {inb} {inb'} {inb''} {hl hl' hx hm}
    {α : Type} {Q : α → sProp 𝕄} {k : PUnit → Prog (TpuEff nD τ sig (Elt F) Λ₀ .tc) α} :
    iprop(pts c cc0_stg1_0 Finset.univ fullShare (B c) ∗ (∃ f, pts c cc0_scratch1 Finset.univ fullShare f))
      ⊢ iprop(((pts c cc0_stg1_0 Finset.univ fullShare (B c) ∗ pts c cc0_scratch1 Finset.univ fullShare (B c)) -∗ run c (k ⟨⟩) Q)
          -∗ run c (.op (.load (Memref.whole cc0_stg1_0 : Memref sig .tc .vmem S384x768 .bf16) (Rect.unit (s := S384x768) o S384x768.size inb).toLoadRect hl) fun (v : Vec F S384x768 .bf16) =>
            .op (.load (Memref.whole cc0_scratch1 : Memref sig .tc .vmem S384x768 .bf16) (Rect.unit (s := S384x768) o' S384x768.size inb').toLoadRect hl') fun (_ : Vec F S384x768 .bf16) =>
            .op (.store (Memref.whole cc0_scratch1 : Memref sig .tc .vmem S384x768 .bf16) (Rect.unit (s := S384x768) o'' S384x768.size inb'') (k0_pay2 v) Finset.univ hx hm) k) Q) := by
  iintro ⟨Hx, ⟨%f, Ha⟩⟩ Hk
  iapply (wp_ld c (m := Memref.whole cc0_stg1_0) (Finset.subset_univ _) (readAt_whole_unit cc0_stg1_0 _ _)) $$ Hx
  iintro Hx
  iapply (wp_ld c (m := Memref.whole cc0_scratch1) (Finset.subset_univ _) (readAt_whole_unit cc0_scratch1 _ _)) $$ Ha
  iintro Ha
  iapply (wp_st c (m := (Memref.whole cc0_scratch1 : Memref sig .tc .vmem S384x768 .bf16)) (r := Rect.unit (s := S384x768) o'' S384x768.size inb'') (f := f) (pts c cc0_scratch1 Finset.univ fullShare (B c))
    (Finset.subset_univ _) (st_eq' c cc0_scratch1 _ (fun i _ => mem_allB ho'' i) f (B c) _ (copyB_eq B c ho ho''))) $$ Ha
  iintro Ha
  iapply Hk
  isplitl [Hx]; · iexact Hx
  iexact Ha

/-- The copied operands. -/
def ops (c : Dev nD) : sProp 𝕄 := iprop(pts c cc0_scratch0 Finset.univ fullShare (A c) ∗ pts c cc0_scratch1 Finset.univ fullShare (B c))

/-- A third's two lanes of the sending buffer. -/
theorem wp_pair (j : Fin 3) (la lb : Fin 6) (hla : la.val = 2 * j.val) (hlb : lb.val = 2 * j.val + 1) (c : Dev nD) {oR oC : Fin 2 → ℕ} {o o' p p' : Fin 3 → ℕ}
    (hoR : oR = ![(opp (bit j c)).val * 384, 0]) (hoC : oC = ![0, j.val * 256]) (ho : o = ![la.val, 0, 0]) (ho' : o' = ![la.val, 0, 0])
    (hp : p = ![lb.val, 0, 0]) (hp' : p' = ![lb.val, 0, 0]) {inbR} {inbC} {inb} {inb'} {inbp} {inbp'}
    {pf pg : Vec F S384x384 .bf16 → Vec F S384x256 .bf16 → Vec F S1x384x128 .bf16} (hpf : pf = k0_pay8) (hpg : pg = k0_pay9)
    {hlR hlC hl hx hm hl' hx' hm'}
    {α : Type} {Q : α → sProp 𝕄} {k : PUnit → Prog (TpuEff nD τ sig (Elt F) Λ₀ .tc) α} :
    iprop(ops A B c ∗ (∃ f, pts c cc0_scratch5 (lane4 la) fullShare f) ∗ (∃ f, pts c cc0_scratch5 (lane4 lb) fullShare f))
      ⊢ iprop(((ops A B c ∗ pts c cc0_scratch5 (lane4 la) fullShare (sbG A B c) ∗ pts c cc0_scratch5 (lane4 lb) fullShare (sbG A B c)) -∗ run c (k ⟨⟩) Q)
          -∗ run c (.op (.load (Memref.whole cc0_scratch0 : Memref sig .tc .vmem S768x384 .bf16) (Rect.unit (s := S768x384) oR S384x384.size inbR).toLoadRect hlR) fun (v : Vec F S384x384 .bf16) =>
            .op (.load (Memref.whole cc0_scratch1 : Memref sig .tc .vmem S384x768 .bf16) (Rect.unit (s := S384x768) oC S384x256.size inbC).toLoadRect hlC) fun (w : Vec F S384x256 .bf16) =>
            .op (.load (Memref.whole cc0_scratch5 : Memref sig .tc .vmem S6x384x128 .bf16) (Rect.unit (s := S6x384x128) o S1x384x128.size inb).toLoadRect hl) fun (_ : Vec F S1x384x128 .bf16) =>
            .op (.store (Memref.whole cc0_scratch5 : Memref sig .tc .vmem S6x384x128 .bf16) (Rect.unit (s := S6x384x128) o' S1x384x128.size inb') (pf v w) Finset.univ hx hm) fun _ =>
            .op (.load (Memref.whole cc0_scratch5 : Memref sig .tc .vmem S6x384x128 .bf16) (Rect.unit (s := S6x384x128) p S1x384x128.size inbp).toLoadRect hl') fun (_ : Vec F S1x384x128 .bf16) =>
            .op (.store (Memref.whole cc0_scratch5 : Memref sig .tc .vmem S6x384x128 .bf16) (Rect.unit (s := S6x384x128) p' S1x384x128.size inbp') (pg v w) Finset.univ hx' hm') k) Q) := by
  subst hpf hpg
  unfold ops
  iintro ⟨⟨HA, HB⟩, ⟨%f, Ha⟩, ⟨%g, Hb⟩⟩ Hk
  iapply (wp_ld c (m := Memref.whole cc0_scratch0) (Finset.subset_univ _) (readAt_whole_unit cc0_scratch0 _ _)) $$ HA
  iintro HA
  iapply (wp_ld c (m := Memref.whole cc0_scratch1) (Finset.subset_univ _) (readAt_whole_unit cc0_scratch1 _ _)) $$ HB
  iintro HB
  iapply (wp_ld c (m := Memref.whole cc0_scratch5) (ld_sub cc0_scratch5 _ (set_lane4 la ho)) (readAt_whole_unit cc0_scratch5 _ _)) $$ Ha
  iintro Ha
  iapply (wp_st c (m := (Memref.whole cc0_scratch5 : Memref sig .tc .vmem S6x384x128 .bf16)) (r := Rect.unit (s := S6x384x128) o' S1x384x128.size inb') (S := lane4 la) (f := f) (pts c cc0_scratch5 (lane4 la) fullShare (sbG A B c))
    (st_sub cc0_scratch5 _ (set_lane4 la ho')) (st_eq c cc0_scratch5 _ (set_lane4 la ho') f (sbG A B c) _ (fill0_eq A B j la hla c hoR hoC ho'))) $$ Ha
  iintro Ha
  iapply (wp_ld c (m := Memref.whole cc0_scratch5) (ld_sub cc0_scratch5 _ (set_lane4 lb hp)) (readAt_whole_unit cc0_scratch5 _ _)) $$ Hb
  iintro Hb
  iapply (wp_st c (m := (Memref.whole cc0_scratch5 : Memref sig .tc .vmem S6x384x128 .bf16)) (r := Rect.unit (s := S6x384x128) p' S1x384x128.size inbp') (S := lane4 lb) (f := g) (pts c cc0_scratch5 (lane4 lb) fullShare (sbG A B c))
    (st_sub cc0_scratch5 _ (set_lane4 lb hp')) (st_eq c cc0_scratch5 _ (set_lane4 lb hp') g (sbG A B c) _ (fill1_eq A B j lb hlb c hoR hoC hp'))) $$ Hb
  iintro Hb
  iapply Hk
  isplitl [HA HB]
  · isplitl [HA]; · iexact HA
    iexact HB
  isplitl [Ha]; · iexact Ha
  iexact Hb

/-- A third of what is kept. -/
theorem wp_keep (j : Fin 3) (c : Dev nD) {oR oC : Fin 2 → ℕ} {o o' : Fin 3 → ℕ}
    (hoR : oR = ![(bit j c).val * 384, 0]) (hoC : oC = ![0, j.val * 256]) (ho : o = ![j.val, 0, 0]) (ho' : o' = ![j.val, 0, 0]) {inbR} {inbC} {inb} {inb'}
    {pf : Vec F S384x384 .bf16 → Vec F S384x256 .bf16 → Vec F S1x384x256 .bf16} (hpf : pf = k0_pay13) {hlR hlC hl hx hm}
    {α : Type} {Q : α → sProp 𝕄} {k : PUnit → Prog (TpuEff nD τ sig (Elt F) Λ₀ .tc) α} :
    iprop(ops A B c ∗ (∃ f, pts c cc0_scratch2 (thirdK j) fullShare f))
      ⊢ iprop(((ops A B c ∗ pts c cc0_scratch2 (thirdK j) fullShare (kG A B c)) -∗ run c (k ⟨⟩) Q)
          -∗ run c (.op (.load (Memref.whole cc0_scratch0 : Memref sig .tc .vmem S768x384 .bf16) (Rect.unit (s := S768x384) oR S384x384.size inbR).toLoadRect hlR) fun (v : Vec F S384x384 .bf16) =>
            .op (.load (Memref.whole cc0_scratch1 : Memref sig .tc .vmem S384x768 .bf16) (Rect.unit (s := S384x768) oC S384x256.size inbC).toLoadRect hlC) fun (w : Vec F S384x256 .bf16) =>
            .op (.load (Memref.whole cc0_scratch2 : Memref sig .tc .vmem S3x384x256 .bf16) (Rect.unit (s := S3x384x256) o S1x384x256.size inb).toLoadRect hl) fun (_ : Vec F S1x384x256 .bf16) =>
            .op (.store (Memref.whole cc0_scratch2 : Memref sig .tc .vmem S3x384x256 .bf16) (Rect.unit (s := S3x384x256) o' S1x384x256.size inb') (pf v w) Finset.univ hx hm) k) Q) := by
  subst hpf
  unfold ops
  iintro ⟨⟨HA, HB⟩, ⟨%f, Ha⟩⟩ Hk
  iapply (wp_ld c (m := Memref.whole cc0_scratch0) (Finset.subset_univ _) (readAt_whole_unit cc0_scratch0 _ _)) $$ HA
  iintro HA
  iapply (wp_ld c (m := Memref.whole cc0_scratch1) (Finset.subset_univ _) (readAt_whole_unit cc0_scratch1 _ _)) $$ HB
  iintro HB
  iapply (wp_ld c (m := Memref.whole cc0_scratch2) (ld_sub cc0_scratch2 _ (set_thirdK j ho)) (readAt_whole_unit cc0_scratch2 _ _)) $$ Ha
  iintro Ha
  iapply (wp_st c (m := (Memref.whole cc0_scratch2 : Memref sig .tc .vmem S3x384x256 .bf16)) (r := Rect.unit (s := S3x384x256) o' S1x384x256.size inb') (S := thirdK j) (f := f) (pts c cc0_scratch2 (thirdK j) fullShare (kG A B c))
    (st_sub cc0_scratch2 _ (set_thirdK j ho')) (st_eq c cc0_scratch2 _ (set_thirdK j ho') f (kG A B c) _ (keep_eq A B j c hoR hoC ho'))) $$ Ha
  iintro Ha
  iapply Hk
  isplitl [HA HB]
  · isplitl [HA]; · iexact HA
    iexact HB
  iexact Ha

end Fill

end Cert.KernelIdealProof

end
-- ==== Proof.KernelIdeal.Gather.lean ====
/-
# Buffers apart and together

Before the handshake the landing places are cut out of the buffers they lie in; after it, what a device holds is dealt out
to its six lanes; and at the end the lanes' pieces make the whole buffers again.
-/
module

public import proofs.«01_k».proof.Proof.KernelIdeal.Fill

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

omit [FloatOps F] in
/-- All five rounds, one by one. -/
theorem rounds_eq (Φ : Fin 5 → sProp 𝕄) : bigSep Finset.univ Φ = iprop(Φ 0 ∗ Φ 1 ∗ Φ 2 ∗ Φ 3 ∗ Φ 4) := by
  rw [show (Finset.univ : Finset (Fin 5)) = insert 0 (insert 1 (insert 2 (insert 3 {4}))) from by decide,
    bigSep_insert (by decide), bigSep_insert (by decide), bigSep_insert (by decide), bigSep_insert (by decide), bigSep_singleton]
  rfl
omit [FloatOps F] in
/-- All transfers, round by round. -/
theorem transfers_eq (Φ : Fin 5 → Fin 6 → sProp 𝕄) : (bigSep Finset.univ fun k : Fin 5 × Fin 6 => Φ k.1 k.2)
    = iprop(bigSep Finset.univ (Φ 0) ∗ bigSep Finset.univ (Φ 1) ∗ bigSep Finset.univ (Φ 2) ∗ bigSep Finset.univ (Φ 3) ∗ bigSep Finset.univ (Φ 4)) := by
  rw [bigSep_univ_prod, rounds_eq]
omit [FloatOps F] in
/-- A buffer held whole is its parts, for parts that cover it and do not meet. -/
theorem parts_eq {n : ℕ} (c : Dev nD) (b : Ref sig .tc) (X : Fin n → Finset (Idx ((c : Thread nD τ).loc b)))
    (S : Finset (Idx ((c : Thread nD τ).loc b))) (hc : Finset.univ.biUnion X = S)
    (hd : ∀ t ∈ (Finset.univ : Finset (Fin n)), ∀ t' ∈ (Finset.univ : Finset (Fin n)), t ≠ t' → Disjoint (X t) (X t'))
    (q : PosShare TreeShare) (f : Buf (Elt F) ((c : Thread nD τ).loc b)) :
    pts c b S q f = bigSep Finset.univ fun t => pts c b (X t) q f := by
  subst hc; exact pointsTo_biUnion _ X hd

section Gather

variable (A : Dev nD → Vec F S768x384 .bf16) (B : Dev nD → Vec F S384x768 .bf16) (K : Dev nD × CI → ℕ)

/-! ## Apart -/

/-- Some contents are some contents of each part. -/
theorem parts_some {n : ℕ} (c : Dev nD) (b : Ref sig .tc) (X : Fin n → Finset (Idx ((c : Thread nD τ).loc b)))
    (S : Finset (Idx ((c : Thread nD τ).loc b))) (hc : Finset.univ.biUnion X = S)
    (hd : ∀ t ∈ (Finset.univ : Finset (Fin n)), ∀ t' ∈ (Finset.univ : Finset (Fin n)), t ≠ t' → Disjoint (X t) (X t')) :
    (iprop(∃ f, pts (F := F) c b S fullShare f) : sProp 𝕄) ⊢ bigSep Finset.univ fun t => iprop(∃ f, pts (F := F) c b (X t) fullShare f) := by
  have h1 : ∀ f, ∀ t ∈ (Finset.univ : Finset (Fin n)), (pts c b (X t) fullShare f : sProp 𝕄) ⊢ iprop(∃ f, pts (F := F) c b (X t) fullShare f) := fun f t _ => by
    iintro H; iexists f; iexact H
  have h : ∀ f, (pts c b S fullShare f : sProp 𝕄) ⊢ bigSep Finset.univ fun t => iprop(∃ f, pts (F := F) c b (X t) fullShare f) := fun f =>
    (Entails.of_eq (parts_eq c b X S hc hd fullShare f)).trans (bigSep_mono (h1 f))
  iintro ⟨%f, H⟩
  iapply (h f)
  iexact H

include A B in
/-- A lane's columns of the result: the quarter this device finishes, and where rounds 3 and 4 land. -/
theorem out_apart (li : Fin 6) (c : Dev nD) : (iprop(∃ f, pts (F := F) c cc0_stg2_0 (outLane li) fullShare f) : sProp 𝕄)
    ⊢ iprop((∃ f, pts (F := F) c cc0_stg2_0 (outQ li (hb li c) (qb li c)) fullShare f) ∗ landPay (F := F) 3 li c ∗ landPay (F := F) 4 li c) := by
  unfold landPay
  dsimp only [landAt]
  iintro ⟨%f, H⟩
  ihave H := (Entails.of_eq (show pts c cc0_stg2_0 (outLane li) fullShare f = (pts c cc0_stg2_0 (outHalf li (hb li c) ∪ outHalf li (opp (hb li c))) fullShare f : sProp 𝕄) from by rw [outHalf_union])) $$ H
  ihave H := (pointsTo_union (outHalf_disj li (hb li c))).1 $$ H
  icases H with ⟨H, H4⟩
  ihave H := (out_split (F := F) li (hb li c) (qb li c) c fullShare f).1 $$ H
  icases H with ⟨H, H3⟩
  isplitl [H]; · iexists f; iexact H
  isplitl [H3]
  · iexists (sbG A B c); iexists (ab1G A B c); iexists f; iexact H3
  iexists (sbG A B c); iexists (ab1G A B c); iexists f; iexact H4

include A B in
theorem land0 (li : Fin 6) (c : Dev nD) : (iprop(∃ f, pts (F := F) c cc0_scratch6 (lane4 li) fullShare f) : sProp 𝕄) ⊢ landPay (F := F) 0 li c := by
  unfold landPay
  dsimp only [landAt]
  iintro ⟨%f, H⟩
  iexists f; iexists (ab1G A B c); iexists (outG A B c); iexact H
include A B in
theorem land1 (li : Fin 6) (c : Dev nD) : (iprop(∃ f, pts (F := F) c cc0_scratch7 (lane2 li) fullShare f) : sProp 𝕄) ⊢ landPay (F := F) 1 li c := by
  unfold landPay
  dsimp only [landAt]
  iintro ⟨%f, H⟩
  iexists (sbG A B c); iexists f; iexists (outG A B c); iexact H
include A B in
theorem land2 (li : Fin 6) (c : Dev nD) : (iprop(∃ f, pts (F := F) c cc0_scratch8 (lane2 li) fullShare f) : sProp 𝕄) ⊢ landPay (F := F) 2 li c := by
  unfold landPay
  dsimp only [landAt]
  iintro ⟨%f, H⟩
  iexists (sbG A B c); iexists f; iexists (outG A B c); iexact H

include A B in
/-- The landing places of all transfers to this device, by axis, and the quarters of the result it finishes itself. -/
theorem land_apart (c : Dev nD) :
    iprop((∃ f, pts (F := F) c cc0_scratch6 Finset.univ fullShare f) ∗ (∃ f, pts (F := F) c cc0_scratch7 Finset.univ fullShare f)
        ∗ (∃ f, pts (F := F) c cc0_scratch8 Finset.univ fullShare f) ∗ (∃ f, pts (F := F) c cc0_stg2_0 Finset.univ fullShare f))
      ⊢ (iprop((bigSep (onAxis 0) fun k => landPay (F := F) k.1 k.2 c) ∗ (bigSep (onAxis 1) fun k => landPay (F := F) k.1 k.2 c)
        ∗ (bigSep (onAxis 2) fun k => landPay (F := F) k.1 k.2 c)
        ∗ bigSep Finset.univ fun li => iprop(∃ f, pts (F := F) c cc0_stg2_0 (outQ li (hb li c) (qb li c)) fullShare f)) : sProp 𝕄) := by
  have e := (thirds_eq (fun b => bigSep (onAxis b) fun k => landPay (F := F) k.1 k.2 c)).symm.trans
    ((by_axis fun k => landPay (F := F) k.1 k.2 c).trans (transfers_eq fun r li => landPay (F := F) r li c))
  iintro ⟨H6, H7, H8, Ho⟩
  ihave H6 := ((parts_some c cc0_scratch6 lane4 Finset.univ lane4_cover lane4_disj).trans (bigSep_mono fun li _ => land0 A B li c)) $$ H6
  ihave H7 := ((parts_some c cc0_scratch7 lane2 Finset.univ lane2_cover lane2_disj).trans (bigSep_mono fun li _ => land1 A B li c)) $$ H7
  ihave H8 := ((parts_some c cc0_scratch8 lane2 Finset.univ lane2_cover lane2_disj).trans (bigSep_mono fun li _ => land2 A B li c)) $$ H8
  ihave Ho := ((parts_some c cc0_stg2_0 outLane Finset.univ outLane_cover outLane_disj).trans (bigSep_mono fun li _ => out_apart A B li c)) $$ Ho
  ihave Ho := (Entails.of_eq (bigSep_sep' _ _ _)) $$ Ho
  icases Ho with ⟨Ho, Hl⟩
  ihave Hl := (Entails.of_eq (bigSep_sep' _ _ _)) $$ Hl
  icases Hl with ⟨H3, H4⟩
  ihave H := (Entails.of_eq e.symm) $$ [H6 H7 H8 H3 H4]
  · isplitl [H6]; · iexact H6
    isplitl [H7]; · iexact H7
    isplitl [H8]; · iexact H8
    isplitl [H3]; · iexact H3
    iexact H4
  icases H with ⟨H0, H1, H2⟩
  isplitl [H0]; · iexact H0
  isplitl [H1]; · iexact H1
  isplitl [H2]; · iexact H2
  iexact Ho

/-! ## To the lanes -/

omit [FloatOps F] in
/-- The rights and the partners' landing places, round by round. -/
theorem snd_rounds (c : Dev nD) :
    iprop((bigSep Finset.univ fun k : Fin 5 × Fin 6 => toks (F := F) k.1 k.2 c) ∗ (bigSep Finset.univ fun k : Fin 5 × Fin 6 => landPay (F := F) k.1 k.2 (par k.1 k.2 c)))
      ⊢ (iprop((bigSep Finset.univ fun li => snd (F := F) 0 li c) ∗ (bigSep Finset.univ fun li => snd (F := F) 1 li c) ∗ (bigSep Finset.univ fun li => snd (F := F) 2 li c)
        ∗ (bigSep Finset.univ fun li => snd (F := F) 3 li c) ∗ (bigSep Finset.univ fun li => snd (F := F) 4 li c)) : sProp 𝕄) :=
  Entails.of_eq ((bigSep_sep' _ _ _).symm.trans (transfers_eq fun r li => snd (F := F) r li c))

/-- What the lanes start from. -/
theorem lanes_start (c : Dev nD) :
    iprop((bigSep Finset.univ fun k : Fin 5 × Fin 6 => due (F := F) k.1 k.2 c)
        ∗ ((bigSep Finset.univ fun li => snd (F := F) 1 li c) ∗ (bigSep Finset.univ fun li => snd (F := F) 2 li c)
          ∗ (bigSep Finset.univ fun li => snd (F := F) 3 li c) ∗ (bigSep Finset.univ fun li => snd (F := F) 4 li c))
        ∗ (∃ f, pts (F := F) c cc0_scratch3 Finset.univ fullShare f) ∗ (∃ f, pts (F := F) c cc0_scratch4 Finset.univ fullShare f)
        ∗ bigSep Finset.univ fun li => iprop(∃ f, pts (F := F) c cc0_stg2_0 (outQ li (hb li c) (qb li c)) fullShare f))
      ⊢ (bigSep Finset.univ (stA (F := F) c) : sProp 𝕄) := by
  rw [transfers_eq fun r li => due (F := F) r li c,
    show stA (F := F) c = fun li => iprop((due (F := F) 0 li c ∗ (∃ f, pts c cc0_scratch3 (lane4 li) fullShare f) ∗ snd (F := F) 1 li c)
      ∗ (due (F := F) 1 li c ∗ (∃ f, pts c cc0_scratch4 (lane2 li) fullShare f) ∗ snd (F := F) 2 li c)
      ∗ (due (F := F) 2 li c ∗ (∃ f, pts c cc0_stg2_0 (outQ li (hb li c) (qb li c)) fullShare f) ∗ snd (F := F) 3 li c)
      ∗ (due (F := F) 3 li c ∗ snd (F := F) 4 li c) ∗ due (F := F) 4 li c) from rfl]
  simp only [bigSep_sep']
  iintro ⟨⟨D0, D1, D2, D3, D4⟩, ⟨S1, S2, S3, S4⟩, H3, H4, Ho⟩
  ihave H3 := (parts_some c cc0_scratch3 lane4 Finset.univ lane4_cover lane4_disj) $$ H3
  ihave H4 := (parts_some c cc0_scratch4 lane2 Finset.univ lane2_cover lane2_disj) $$ H4
  isplitl [D0 H3 S1]
  · isplitl [D0]; · iexact D0
    isplitl [H3]; · iexact H3
    iexact S1
  isplitl [D1 H4 S2]
  · isplitl [D1]; · iexact D1
    isplitl [H4]; · iexact H4
    iexact S2
  isplitl [D2 Ho S3]
  · isplitl [D2]; · iexact D2
    isplitl [Ho]; · iexact Ho
    iexact S3
  isplitl [D3 S4]
  · isplitl [D3]; · iexact D3
    iexact S4
  iexact D4

/-! ## Together -/

/-- What a lane holds at the end, apart from its transfers under way. -/
def stG (c : Dev nD) (li : Fin 6) : sProp 𝕄 :=
  iprop((semVal (recvCell 0 li c) 0 ∗ semVal (recvCell 1 li c) 0 ∗ semVal (recvCell 2 li c) 0 ∗ semVal (recvCell 3 li c) 0 ∗ semVal (recvCell 4 li c) 0)
    ∗ pts c cc0_scratch6 (lane4 li) fullShare (rb0G A B c) ∗ pts c cc0_scratch3 (laneQ li (qb li c)) fullShare (ab0G A B c)
    ∗ pts c cc0_scratch7 (lane2 li) fullShare (rb1G A B c) ∗ pts c cc0_scratch4 (lane2 li) qR (ab1G A B c)
    ∗ pts c cc0_scratch8 (lane2 li) fullShare (rb2G A B c)
    ∗ pts c cc0_stg2_0 (outQ li (hb li c) (opp (qb li c))) qL (outG A B c)
    ∗ pts c cc0_stg2_0 (outHalf li (opp (hb li c))) fullShare (outG A B c))

theorem stF_split (c : Dev nD) (li : Fin 6) : stF A B c li
    ⊢ iprop(stG A B c li ∗ sent (F := F) 1 li c ∗ sent (F := F) 2 li c ∗ sent (F := F) 3 li c ∗ sent (F := F) 4 li c) := by
  unfold stF stG outA outB outC outD outE
  iintro ⟨⟨Z0, H6, H3, T1⟩, ⟨Z1, H7, H4, T2⟩, ⟨Z2, H8, T3⟩, ⟨Z3, Hq, T4⟩, ⟨Z4, Hh⟩⟩
  isplitr [T1 T2 T3 T4]
  · isplitl [Z0 Z1 Z2 Z3 Z4]
    · isplitl [Z0]; · iexact Z0
      isplitl [Z1]; · iexact Z1
      isplitl [Z2]; · iexact Z2
      isplitl [Z3]; · iexact Z3
      iexact Z4
    isplitl [H6]; · iexact H6
    isplitl [H3]; · iexact H3
    isplitl [H7]; · iexact H7
    isplitl [H4]; · iexact H4
    isplitl [H8]; · iexact H8
    isplitl [Hq]; · iexact Hq
    iexact Hh
  isplitl [T1]; · iexact T1
  isplitl [T2]; · iexact T2
  isplitl [T3]; · iexact T3
  iexact T4

theorem stF_apart (c : Dev nD) : (bigSep Finset.univ (stF A B c) : sProp 𝕄)
    ⊢ iprop(bigSep Finset.univ (stG A B c) ∗ (bigSep Finset.univ fun li => sent (F := F) 1 li c) ∗ (bigSep Finset.univ fun li => sent (F := F) 2 li c)
      ∗ (bigSep Finset.univ fun li => sent (F := F) 3 li c) ∗ (bigSep Finset.univ fun li => sent (F := F) 4 li c)) := by
  simp only [← bigSep_sep']
  exact bigSep_mono fun li _ => stF_split A B c li

/-- A lane's semaphores at zero. -/
def zeros (c : Dev nD) (li : Fin 6) : sProp 𝕄 :=
  iprop((semVal (sendCell 0 li c) 0 ∗ semVal (sendCell 1 li c) 0 ∗ semVal (sendCell 2 li c) 0 ∗ semVal (sendCell 3 li c) 0 ∗ semVal (sendCell 4 li c) 0)
    ∗ (semVal (recvCell 0 li c) 0 ∗ semVal (recvCell 1 li c) 0 ∗ semVal (recvCell 2 li c) 0 ∗ semVal (recvCell 3 li c) 0 ∗ semVal (recvCell 4 li c) 0))

/-- A lane's pieces of the buffers. -/
def lanePts (c : Dev nD) (li : Fin 6) : sProp 𝕄 :=
  iprop(pts c cc0_scratch3 (lane4 li) fullShare (ab0G A B c) ∗ pts c cc0_scratch4 (lane2 li) fullShare (ab1G A B c)
    ∗ pts c cc0_scratch5 (lane4 li) fullShare (sbG A B c) ∗ pts c cc0_scratch6 (lane4 li) fullShare (rb0G A B c)
    ∗ pts c cc0_scratch7 (lane2 li) fullShare (rb1G A B c) ∗ pts c cc0_scratch8 (lane2 li) fullShare (rb2G A B c)
    ∗ pts c cc0_stg2_0 (outLane li) fullShare (outG A B c))

/-- A lane's columns of the result, together again. -/
theorem out_together (li : Fin 6) (c : Dev nD) :
    iprop(pts c cc0_stg2_0 (outQ li (hb li c) (qb li c)) qL (outG A B c) ∗ pts c cc0_stg2_0 (outQ li (hb li c) (opp (qb li c))) qL (outG A B c)
        ∗ pts c cc0_stg2_0 (outHalf li (hb li c)) qR (outG A B c) ∗ pts c cc0_stg2_0 (outHalf li (opp (hb li c))) fullShare (outG A B c))
      ⊢ (pts c cc0_stg2_0 (outLane li) fullShare (outG A B c) : sProp 𝕄) := by
  rw [← outHalf_union li (hb li c)]
  iintro ⟨H1, H2, H3, H4⟩
  iapply (pointsTo_union (outHalf_disj li (hb li c))).2
  isplitr [H4]
  · iapply (pts_halves c cc0_stg2_0 (outHalf li (hb li c)) (outG A B c)).2
    isplitr [H3]
    · iapply (out_split (F := F) li (hb li c) (qb li c) c qL (outG A B c)).2
      isplitl [H1]; · iexact H1
      iexact H2
    iexact H3
  iexact H4

/-- A lane at the end, its transfers over. -/
theorem lane_together (c : Dev nD) (li : Fin 6) :
    iprop(stG A B c li ∗ back' A B 0 li c ∗ back' A B 1 li c ∗ back' A B 2 li c ∗ back' A B 3 li c ∗ back' A B 4 li c)
      ⊢ iprop(zeros c li ∗ lanePts A B c li) := by
  unfold stG back' zeros lanePts
  dsimp only [sendPay]
  iintro ⟨⟨Z, H6, H3, H7, H4, H8, Hq, Hh⟩, ⟨Z0, H5⟩, ⟨Z1, H3'⟩, ⟨Z2, H4'⟩, ⟨Z3, Ho⟩, ⟨Z4, Ho'⟩⟩
  isplitl [Z Z0 Z1 Z2 Z3 Z4]
  · isplitr [Z]
    · isplitl [Z0]; · iexact Z0
      isplitl [Z1]; · iexact Z1
      isplitl [Z2]; · iexact Z2
      isplitl [Z3]; · iexact Z3
      iexact Z4
    iexact Z
  isplitl [H3 H3']
  · iapply (ab0_split (F := F) li c (ab0G A B c)).2
    isplitl [H3]; · iexact H3
    iexact H3'
  isplitl [H4 H4']
  · iapply (pts_halves c cc0_scratch4 (lane2 li) (ab1G A B c)).2
    isplitl [H4']; · iexact H4'
    iexact H4
  isplitl [H5]; · iexact H5
  isplitl [H6]; · iexact H6
  isplitl [H7]; · iexact H7
  isplitl [H8]; · iexact H8
  iapply (out_together A B li c)
  isplitl [Ho]; · iexact Ho
  isplitl [Hq]; · iexact Hq
  isplitl [Ho']; · iexact Ho'
  iexact Hh

/-- Everything a device holds at the end, its transfers over: its semaphores at zero, its buffers whole, the result. -/
theorem lanes_end (c : Dev nD) :
    iprop(bigSep Finset.univ (stG A B c) ∗ (bigSep Finset.univ fun li => back' A B 0 li c) ∗ (bigSep Finset.univ fun li => back' A B 1 li c)
        ∗ (bigSep Finset.univ fun li => back' A B 2 li c) ∗ (bigSep Finset.univ fun li => back' A B 3 li c) ∗ (bigSep Finset.univ fun li => back' A B 4 li c))
      ⊢ (iprop(bigSep Finset.univ (zeros (F := F) c)
        ∗ pts c cc0_scratch3 Finset.univ fullShare (ab0G A B c) ∗ pts c cc0_scratch4 Finset.univ fullShare (ab1G A B c)
        ∗ pts c cc0_scratch5 Finset.univ fullShare (sbG A B c) ∗ pts c cc0_scratch6 Finset.univ fullShare (rb0G A B c)
        ∗ pts c cc0_scratch7 Finset.univ fullShare (rb1G A B c) ∗ pts c cc0_scratch8 Finset.univ fullShare (rb2G A B c)
        ∗ pts c cc0_stg2_0 Finset.univ fullShare (outG A B c)) : sProp 𝕄) := by
  rw [parts_eq c cc0_scratch3 lane4 Finset.univ lane4_cover lane4_disj, parts_eq c cc0_scratch4 lane2 Finset.univ lane2_cover lane2_disj,
    parts_eq c cc0_scratch5 lane4 Finset.univ lane4_cover lane4_disj, parts_eq c cc0_scratch6 lane4 Finset.univ lane4_cover lane4_disj,
    parts_eq c cc0_scratch7 lane2 Finset.univ lane2_cover lane2_disj, parts_eq c cc0_scratch8 lane2 Finset.univ lane2_cover lane2_disj,
    parts_eq c cc0_stg2_0 outLane Finset.univ outLane_cover outLane_disj]
  simp only [← bigSep_sep']
  exact bigSep_mono fun li _ => lane_together A B c li

end Gather

end Cert.KernelIdealProof

end
-- ==== Proof.KernelIdeal.Body.lean ====
/-
# The kernel's body on a device

The whole program of one device `c`, from its operands and the rights the protocol gives it to the finished result: the
handshake, the products, the three rounds of sums, the two rounds that pass the finished parts on, and the waits for what
was sent.
-/
module

public import proofs.«01_k».proof.Proof.KernelIdeal.Gather

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The kernel on its windows and its own buffers. -/
abbrev theBody := cc0_body (F := F) (Memref.whole cc0_stg0_0) (Memref.isWhole_whole _) (Memref.whole cc0_stg1_0) (Memref.isWhole_whole _) (Memref.whole cc0_stg2_0) (Memref.isWhole_whole _)
  (Memref.whole cc0_scratch0) (Memref.isWhole_whole _) (Memref.whole cc0_scratch1) (Memref.isWhole_whole _) (Memref.whole cc0_scratch2) (Memref.isWhole_whole _) (Memref.whole cc0_scratch3) (Memref.isWhole_whole _)
  (Memref.whole cc0_scratch4) (Memref.isWhole_whole _) (Memref.whole cc0_scratch5) (Memref.isWhole_whole _) (Memref.whole cc0_scratch6) (Memref.isWhole_whole _) (Memref.whole cc0_scratch7) (Memref.isWhole_whole _)
  (Memref.whole cc0_scratch8) (Memref.isWhole_whole _) cc0_scratch9 cc0_scratch10

section Body

variable (A : Dev nD → Vec F S768x384 .bf16) (B : Dev nD → Vec F S384x768 .bf16) (K : Dev nD × CI → ℕ)

/-- The kernel's own buffers, at whatever they hold. -/
def rooms (c : Dev nD) : sProp 𝕄 :=
  iprop((∃ f, pts (F := F) c cc0_scratch0 Finset.univ fullShare f) ∗ (∃ f, pts (F := F) c cc0_scratch1 Finset.univ fullShare f)
    ∗ (∃ f, pts (F := F) c cc0_scratch2 Finset.univ fullShare f) ∗ (∃ f, pts (F := F) c cc0_scratch3 Finset.univ fullShare f)
    ∗ (∃ f, pts (F := F) c cc0_scratch4 Finset.univ fullShare f) ∗ (∃ f, pts (F := F) c cc0_scratch5 Finset.univ fullShare f)
    ∗ (∃ f, pts (F := F) c cc0_scratch6 Finset.univ fullShare f) ∗ (∃ f, pts (F := F) c cc0_scratch7 Finset.univ fullShare f)
    ∗ (∃ f, pts (F := F) c cc0_scratch8 Finset.univ fullShare f))

/-- What the protocol gives a device at the start: its three signals, its barrier cell, its transfers, what is due to it. -/
def rights (c : Dev nD) : sProp 𝕄 :=
  iprop((dutyTok ER (barCell (flip 0 c)) 0 0 ∗ dutyTok ER (barCell (flip 1 c)) 0 1 ∗ dutyTok ER (barCell (flip 2 c)) 0 2)
    ∗ atPos ER (barCell c) 0 ∅ 0 ∗ cred (tallyAt (barCell c) () 3)
    ∗ (bigSep Finset.univ fun k : Fin 5 × Fin 6 => toks (F := F) k.1 k.2 c) ∗ bigSep Finset.univ fun k : Fin 5 × Fin 6 => due (F := F) k.1 k.2 c)

/-- Before the body. -/
def bodyIn (c : Dev nD) : sProp 𝕄 :=
  iprop(pts c cc0_stg0_0 Finset.univ fullShare (A c) ∗ pts c cc0_stg1_0 Finset.univ fullShare (B c)
    ∗ (∃ f, pts (F := F) c cc0_stg2_0 Finset.univ fullShare f) ∗ rooms (F := F) c ∗ rights (F := F) c ∗ owesE (F := F) c (O₀ c))
/-- After it. -/
def bodyOut (c : Dev nD) : sProp 𝕄 :=
  iprop(pts c cc0_stg0_0 Finset.univ fullShare (A c) ∗ pts c cc0_stg1_0 Finset.univ fullShare (B c)
    ∗ pts c cc0_stg2_0 Finset.univ fullShare (outG A B c) ∗ rooms (F := F) c
    ∗ (semVal (barCell c) 0 ∗ bigSep Finset.univ (zeros (F := F) c)) ∗ owesE (F := F) c 0)

/-- One more step of a program, what it does not touch carried along. -/
theorem step {N P P' R W W' : sProp 𝕄} [Persistent N] (h : iprop(N ∗ P) ⊢ iprop((P' -∗ W) -∗ W')) (hn : iprop(N ∗ P' ∗ R) ⊢ W) : iprop(N ∗ P ∗ R) ⊢ W' := by
  iintro ⟨#HN, HP, HR⟩
  iapply h $$ [HP]
  · isplitr; · iexact HN
    iexact HP
  iintro HP
  iapply hn
  isplitr; · iexact HN
  isplitl [HP]; · iexact HP
  iexact HR

/-- Waiting for a lane's transfer of round `r`. -/
theorem wp_over (r : Fin 5) (li : Fin 6) (c : Dev nD) {s s' : Shape} {e e' : EltTy}
    {src : Memref sig .tc .vmem s' e'} {dst : Memref sig .tc .vmem s e} {sS : DmaSem sig} (hsS : sS = sendSem r li)
    {hsrc : src.view.WordExact} {hdst : dst.view.WordExact} (hN : dst.view.dmaCredit = amt r)
    {α : Type} {Q : α → sProp 𝕄} {k : PUnit → Prog (TpuEff nD τ sig (Elt F) Λ₀ .tc) α} :
    iprop(Know A B K ∗ upto li.val (fun li => sent (F := F) r li c) (fun li => back' A B r li c) ∗ owesE (F := F) c 0)
      ⊢ iprop(((upto (li.val + 1) (fun li => sent (F := F) r li c) (fun li => back' A B r li c) ∗ owesE (F := F) c 0) -∗ run c (k ⟨⟩) Q)
          -∗ run c (.op (.waitDma2 sS src dst hsrc hdst) k) Q) := by
  iintro ⟨#HK, HL, HO⟩ Hk
  ihave HL' := (upto_step li (fun li => sent (F := F) r li c) (fun li => back' A B r li c)) $$ HL
  icases HL' with ⟨H, Hback⟩
  iapply (wp_sent A B K r li c hsS hN) $$ [H HO]
  · isplitr; · iexact HK
    isplitl [H]; · iexact H
    iexact HO
  iintro ⟨H, HO⟩
  iapply Hk
  isplitr [HO]
  · iapply Hback; iexact H
  iexact HO

/-- What the phases leave alone. -/
def aside (c : Dev nD) (G : sProp 𝕄) : sProp 𝕄 :=
  iprop(ops A B c ∗ (pts c cc0_stg0_0 Finset.univ fullShare (A c) ∗ pts c cc0_stg1_0 Finset.univ fullShare (B c)) ∗ semVal (barCell c) 0
    ∗ (bigSep Finset.univ fun li => sent (F := F) 0 li c) ∗ G)

omit [FloatOps F] in
/-- On to the next phase. -/
theorem lanes_next (N : sProp 𝕄) (f g h : Fin 6 → sProp 𝕄) (O R : sProp 𝕄) :
    iprop(N ∗ (upto 6 f g ∗ O) ∗ R) = iprop(N ∗ (upto 0 g h ∗ O) ∗ R) := by rw [upto_next f g h]

/-- After the first sums nothing reads the kept products any more. -/
theorem kept_aside (N : sProp 𝕄) (f g h : Fin 6 → sProp 𝕄) (X O R : sProp 𝕄) :
    iprop(N ∗ (upto 6 f g ∗ X ∗ O) ∗ R) ⊢ iprop(N ∗ (upto 0 g h ∗ O) ∗ X ∗ R) := by
  rw [upto_next f g h]
  iintro ⟨HN, ⟨HL, HX, HO⟩, HR⟩
  isplitl [HN]; · iexact HN
  isplitl [HL HO]
  · isplitl [HL]; · iexact HL
    iexact HO
  isplitl [HX]; · iexact HX
  iexact HR

/-- What is left besides the transfers under way. -/
def left (c : Dev nD) (G : sProp 𝕄) : sProp 𝕄 :=
  iprop(bigSep Finset.univ (stG A B c) ∗ pts c cc0_scratch2 Finset.univ fullShare (kG A B c) ∗ ops A B c
    ∗ (pts c cc0_stg0_0 Finset.univ fullShare (A c) ∗ pts c cc0_stg1_0 Finset.univ fullShare (B c)) ∗ semVal (barCell c) 0 ∗ G)

/-- All lanes through, the waits for what was sent begin. -/
theorem waits_start (N : sProp 𝕄) (c : Dev nD) (G : sProp 𝕄) :
    iprop(N ∗ (upto 6 (stE A B c) (stF A B c) ∗ owesE (F := F) c (Orem 30 c)) ∗ pts c cc0_scratch2 Finset.univ fullShare (kG A B c) ∗ aside A B c G)
      ⊢ iprop(N ∗ (upto 0 (fun li => sent (F := F) 0 li c) (fun li => back' A B 0 li c) ∗ owesE (F := F) c 0)
        ∗ ((bigSep Finset.univ fun li => sent (F := F) 1 li c) ∗ (bigSep Finset.univ fun li => sent (F := F) 2 li c)
          ∗ (bigSep Finset.univ fun li => sent (F := F) 3 li c) ∗ (bigSep Finset.univ fun li => sent (F := F) 4 li c) ∗ emp) ∗ left A B c G) := by
  rw [upto_end, upto_zero, Orem_end]
  unfold aside left
  iintro ⟨HN, ⟨HL, HO⟩, HX, ⟨Hops, Hstg, Hz, Hs0, HG⟩⟩
  ihave HL := (stF_apart A B c) $$ HL
  icases HL with ⟨HL, H1, H2, H3, H4⟩
  isplitl [HN]; · iexact HN
  isplitl [Hs0 HO]
  · isplitl [Hs0]; · iexact Hs0
    iexact HO
  isplitl [H1 H2 H3 H4]
  · isplitl [H1]; · iexact H1
    isplitl [H2]; · iexact H2
    isplitl [H3]; · iexact H3
    isplitl [H4]; · iexact H4
    iempintro
  isplitl [HL]; · iexact HL
  isplitl [HX]; · iexact HX
  isplitl [Hops]; · iexact Hops
  isplitl [Hstg]; · iexact Hstg
  isplitl [Hz]; · iexact Hz
  iexact HG

/-- One round's waits over, the next round's begin. -/
theorem waits_next (N : sProp 𝕄) (c : Dev nD) (r r' : Fin 5) (O S D : sProp 𝕄) :
    iprop(N ∗ (upto 6 (fun li => sent (F := F) r li c) (fun li => back' A B r li c) ∗ O) ∗ ((bigSep Finset.univ fun li => sent (F := F) r' li c) ∗ S) ∗ D)
      ⊢ iprop(N ∗ (upto 0 (fun li => sent (F := F) r' li c) (fun li => back' A B r' li c) ∗ O) ∗ S ∗ (bigSep Finset.univ fun li => back' A B r li c) ∗ D) := by
  rw [upto_end, upto_zero]
  iintro ⟨HN, ⟨HB, HO⟩, ⟨HS, HR⟩, HD⟩
  isplitl [HN]; · iexact HN
  isplitl [HS HO]
  · isplitl [HS]; · iexact HS
    iexact HO
  isplitl [HR]; · iexact HR
  isplitl [HB]; · iexact HB
  iexact HD

/-- All waits over. -/
theorem body_end (N : sProp 𝕄) (c : Dev nD) (Q : sProp 𝕄) :
    iprop(N ∗ (upto 6 (fun li => sent (F := F) 4 li c) (fun li => back' A B 4 li c) ∗ owesE (F := F) c 0) ∗ emp
        ∗ (bigSep Finset.univ fun li => back' A B 3 li c) ∗ (bigSep Finset.univ fun li => back' A B 2 li c)
        ∗ (bigSep Finset.univ fun li => back' A B 1 li c) ∗ (bigSep Finset.univ fun li => back' A B 0 li c) ∗ left A B c iprop(bodyOut A B c -∗ Q))
      ⊢ Q := by
  rw [upto_end]
  unfold left ops
  iintro ⟨-, ⟨B4, HO⟩, -, B3, B2, B1, B0, ⟨HL, HX, ⟨Ha, Hb⟩, ⟨H0, H1⟩, Hz, HG⟩⟩
  ihave HL := (lanes_end A B c) $$ [HL B0 B1 B2 B3 B4]
  · isplitl [HL]; · iexact HL
    isplitl [B0]; · iexact B0
    isplitl [B1]; · iexact B1
    isplitl [B2]; · iexact B2
    isplitl [B3]; · iexact B3
    iexact B4
  icases HL with ⟨Hzs, H3, H4, H5, H6, H7, H8, Ho⟩
  iapply HG
  unfold bodyOut rooms
  isplitl [H0]; · iexact H0
  isplitl [H1]; · iexact H1
  isplitl [Ho]; · iexact Ho
  isplitl [Ha Hb HX H3 H4 H5 H6 H7 H8]
  · isplitl [Ha]; · iexists (A c); iexact Ha
    isplitl [Hb]; · iexists (B c); iexact Hb
    isplitl [HX]; · iexists (kG A B c); iexact HX
    isplitl [H3]; · iexists (ab0G A B c); iexact H3
    isplitl [H4]; · iexists (ab1G A B c); iexact H4
    isplitl [H5]; · iexists (sbG A B c); iexact H5
    isplitl [H6]; · iexists (rb0G A B c); iexact H6
    isplitl [H7]; · iexists (rb1G A B c); iexact H7
    iexists (rb2G A B c); iexact H8
  isplitl [Hz Hzs]
  · isplitl [Hz]; · iexact Hz
    iexact Hzs
  iexact HO

set_option maxRecDepth 65536 in
set_option maxHeartbeats 8000000 in
theorem body (c : Dev nD) (Q : PUnit → sProp 𝕄) :
    iprop(Know A B K ∗ bodyIn A B c) ⊢ iprop((bodyOut A B c -∗ Q ⟨⟩) -∗ run c (theBody (F := F)) Q) := by
  unfold theBody; rw [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel
  simp only [semSignalWord, semWaitWord, Prog.lift, Prog.bind_op, Prog.bind_ret, Prog.pure_eq_ret, Prog.bind_assoc, wp_deviceId]
  unfold bodyIn rooms rights
  iintro ⟨#HK, H0, H1, Ho, ⟨R0, R1, R2, R3, R4, R5, R6, R7, R8⟩, ⟨⟨T0, T1, T2⟩, Hat, Hc, Htoks, Hdue⟩, HO⟩ Hk
  ihave HL := (land_apart A B c) $$ [R6 R7 R8 Ho]
  · isplitl [R6]; · iexact R6
    isplitl [R7]; · iexact R7
    isplitl [R8]; · iexact R8
    iexact Ho
  icases HL with ⟨L0, L1, L2, Hq⟩
  ihave H5 := (parts_some (F := F) c cc0_scratch5 lane4 Finset.univ lane4_cover lane4_disj) $$ R5
  ihave H5 := (Entails.of_eq (lanes_eq _)) $$ H5
  icases H5 with ⟨P0, P1, P2, P3, P4, P5⟩
  ihave H2 := (parts_some (F := F) c cc0_scratch2 thirdK Finset.univ thirdK_cover thirdK_disj) $$ R2
  ihave H2 := (Entails.of_eq (thirds_eq _)) $$ H2
  icases H2 with ⟨K0, K1, K2⟩
  iapply (wp_ready A B K 0 c (dev1_eq c) (O₀ c) (O₁ c) rfl rfl) $$ [T0 L0 HO]
  · isplitr; · iexact HK
    isplitl [T0]; · iexact T0
    isplitl [L0]; · iexact L0
    iexact HO
  iintro HO
  iapply (wp_ready A B K 1 c (dev2_eq c) (O₁ c) (O₂ c) rfl rfl) $$ [T1 L1 HO]
  · isplitr; · iexact HK
    isplitl [T1]; · iexact T1
    isplitl [L1]; · iexact L1
    iexact HO
  iintro HO
  iapply (wp_ready A B K 2 c (dev3_eq c) (O₂ c) (Orem 0 c) rfl rfl) $$ [T2 L2 HO]
  · isplitr; · iexact HK
    isplitl [T2]; · iexact T2
    isplitl [L2]; · iexact L2
    iexact HO
  iintro HO
  iapply (wp_copyA A c rfl rfl rfl) $$ [H0 R0]
  · isplitl [H0]; · iexact H0
    iexact R0
  iintro ⟨H0, Ha⟩
  iapply (wp_copyB B c rfl rfl rfl) $$ [H1 R1]
  · isplitl [H1]; · iexact H1
    iexact R1
  iintro ⟨H1, Hb⟩
  ihave Hops := (show iprop(pts c cc0_scratch0 Finset.univ fullShare (A c) ∗ pts c cc0_scratch1 Finset.univ fullShare (B c)) ⊢ ops A B c from .rfl) $$ [Ha Hb]
  · isplitl [Ha]; · iexact Ha
    iexact Hb
  iapply (wp_pair A B 0 0 1 rfl rfl c (off1_eq c 0) rfl rfl rfl rfl rfl rfl rfl) $$ [Hops P0 P1]
  · isplitl [Hops]; · iexact Hops
    isplitl [P0]; · iexact P0
    iexact P1
  iintro ⟨Hops, P0, P1⟩
  iapply (wp_barrier A B K c rfl) $$ [Hat Hc HO]
  · isplitr; · iexact HK
    isplitl [Hat]; · iexact Hat
    isplitl [Hc]; · iexact Hc
    iexact HO
  iintro ⟨Hz, Hland, HO⟩
  ihave Hsnd := (snd_rounds (F := F) c) $$ [Htoks Hland]
  · isplitl [Htoks]; · iexact Htoks
    iexact Hland
  icases Hsnd with ⟨Hsnd, Hlater⟩
  ihave Hsnd := (Entails.of_eq (lanes_eq _)) $$ Hsnd
  icases Hsnd with ⟨S0, S1, S2, S3, S4, S5⟩
  ihave Hst := (lanes_start (F := F) c) $$ [Hdue Hlater R3 R4 Hq]
  · isplitl [Hdue]; · iexact Hdue
    isplitl [Hlater]; · iexact Hlater
    isplitl [R3]; · iexact R3
    isplitl [R4]; · iexact R4
    iexact Hq
  iapply (wp_send0 A B K 0 c rfl rfl (dev4_eq c) rfl rfl) $$ [S0 P0 HO]
  · isplitr; · iexact HK
    isplitl [S0]; · iexact S0
    isplitl [P0]; · iexact P0
    iexact HO
  iintro ⟨S0, HO⟩
  iapply (wp_send0 A B K 1 c rfl rfl (dev5_eq c) rfl rfl) $$ [S1 P1 HO]
  · isplitr; · iexact HK
    isplitl [S1]; · iexact S1
    isplitl [P1]; · iexact P1
    iexact HO
  iintro ⟨S1, HO⟩
  iapply (wp_pair A B 1 2 3 rfl rfl c (off1_eq c 1) rfl rfl rfl rfl rfl rfl rfl) $$ [Hops P2 P3]
  · isplitl [Hops]; · iexact Hops
    isplitl [P2]; · iexact P2
    iexact P3
  iintro ⟨Hops, P2, P3⟩
  iapply (wp_send0 A B K 2 c rfl rfl (dev6_eq c) rfl rfl) $$ [S2 P2 HO]
  · isplitr; · iexact HK
    isplitl [S2]; · iexact S2
    isplitl [P2]; · iexact P2
    iexact HO
  iintro ⟨S2, HO⟩
  iapply (wp_send0 A B K 3 c rfl rfl (dev7_eq c) rfl rfl) $$ [S3 P3 HO]
  · isplitr; · iexact HK
    isplitl [S3]; · iexact S3
    isplitl [P3]; · iexact P3
    iexact HO
  iintro ⟨S3, HO⟩
  iapply (wp_pair A B 2 4 5 rfl rfl c (off1_eq c 2) rfl rfl rfl rfl rfl rfl rfl) $$ [Hops P4 P5]
  · isplitl [Hops]; · iexact Hops
    isplitl [P4]; · iexact P4
    iexact P5
  iintro ⟨Hops, P4, P5⟩
  iapply (wp_send0 A B K 4 c rfl rfl (dev8_eq c) rfl rfl) $$ [S4 P4 HO]
  · isplitr; · iexact HK
    isplitl [S4]; · iexact S4
    isplitl [P4]; · iexact P4
    iexact HO
  iintro ⟨S4, HO⟩
  iapply (wp_send0 A B K 5 c rfl rfl (dev9_eq c) rfl rfl) $$ [S5 P5 HO]
  · isplitr; · iexact HK
    isplitl [S5]; · iexact S5
    isplitl [P5]; · iexact P5
    iexact HO
  iintro ⟨S5, HO⟩
  iapply (wp_keep A B 0 c (off2_eq c 0) rfl rfl rfl rfl) $$ [Hops K0]
  · isplitl [Hops]; · iexact Hops
    iexact K0
  iintro ⟨Hops, K0⟩
  iapply (wp_keep A B 1 c (off2_eq c 1) rfl rfl rfl rfl) $$ [Hops K1]
  · isplitl [Hops]; · iexact Hops
    iexact K1
  iintro ⟨Hops, K1⟩
  iapply (wp_keep A B 2 c (off2_eq c 2) rfl rfl rfl rfl) $$ [Hops K2]
  · isplitl [Hops]; · iexact Hops
    iexact K2
  iintro ⟨Hops, K2⟩
  ihave Hkept := (Entails.of_eq ((thirds_eq fun j => pts c cc0_scratch2 (thirdK j) fullShare (kG A B c)).symm.trans
    (parts_eq c cc0_scratch2 thirdK Finset.univ thirdK_cover thirdK_disj fullShare (kG A B c)).symm)) $$ [K0 K1 K2]
  · isplitl [K0]; · iexact K0
    isplitl [K1]; · iexact K1
    iexact K2
  ihave Hsent := (Entails.of_eq (lanes_eq fun li => sent (F := F) 0 li c).symm) $$ [S0 S1 S2 S3 S4 S5]
  · isplitl [S0]; · iexact S0
    isplitl [S1]; · iexact S1
    isplitl [S2]; · iexact S2
    isplitl [S3]; · iexact S3
    isplitl [S4]; · iexact S4
    iexact S5
  ihave Hall := (show iprop(Know A B K ∗ (bigSep Finset.univ (stA (F := F) c) ∗ pts c cc0_scratch2 Finset.univ fullShare (kG A B c) ∗ owesE (F := F) c (Orem 6 c))
      ∗ ops A B c ∗ (pts c cc0_stg0_0 Finset.univ fullShare (A c) ∗ pts c cc0_stg1_0 Finset.univ fullShare (B c)) ∗ semVal (barCell c) 0
      ∗ (bigSep Finset.univ fun li => sent (F := F) 0 li c) ∗ (bodyOut A B c -∗ Q ⟨⟩))
    ⊢ iprop(Know A B K ∗ (upto 0 (stA (F := F) c) (stB A B c) ∗ pts c cc0_scratch2 Finset.univ fullShare (kG A B c) ∗ owesE (F := F) c (Orem 6 c))
      ∗ aside A B c iprop(bodyOut A B c -∗ Q ⟨⟩)) from by rw [upto_zero]; exact .rfl) $$ [Hst Hkept HO Hops H0 H1 Hz Hsent Hk]
  · isplitr; · iexact HK
    isplitl [Hst Hkept HO]
    · isplitl [Hst]; · iexact Hst
      isplitl [Hkept]; · iexact Hkept
      iexact HO
    isplitl [Hops]; · iexact Hops
    isplitl [H0 H1]
    · isplitl [H0]; · iexact H0
      iexact H1
    isplitl [Hz]; · iexact Hz
    isplitl [Hsent]; · iexact Hsent
    iexact Hk
  iclear HK
  istop
  refine step (wp_phaseA A B K 0 c (n := 6) (n' := 7) rfl rfl rfl rfl rfl (off3_eq c) rfl (dev10_eq c) rfl rfl rfl rfl) ?_
  refine step (wp_phaseA A B K 1 c (n := 7) (n' := 8) rfl rfl rfl rfl rfl (off4_eq c) rfl (dev11_eq c) rfl rfl rfl rfl) ?_
  refine step (wp_phaseA A B K 2 c (n := 8) (n' := 9) rfl rfl rfl rfl rfl (off5_eq c) rfl (dev12_eq c) rfl rfl rfl rfl) ?_
  refine step (wp_phaseA A B K 3 c (n := 9) (n' := 10) rfl rfl rfl rfl rfl (off6_eq c) rfl (dev13_eq c) rfl rfl rfl rfl) ?_
  refine step (wp_phaseA A B K 4 c (n := 10) (n' := 11) rfl rfl rfl rfl rfl (off7_eq c) rfl (dev14_eq c) rfl rfl rfl rfl) ?_
  refine step (wp_phaseA A B K 5 c (n := 11) (n' := 12) rfl rfl rfl rfl rfl (off8_eq c) rfl (dev15_eq c) rfl rfl rfl rfl) ?_
  refine (kept_aside _ _ _ (stC A B c) _ _ _).trans ?_
  refine step (wp_phaseB A B K 0 c (n := 12) (n' := 13) rfl rfl (off9_eq c) rfl rfl rfl rfl (dev16_eq c) rfl rfl rfl rfl) ?_
  refine step (wp_phaseB A B K 1 c (n := 13) (n' := 14) rfl rfl (off10_eq c) rfl rfl rfl rfl (dev17_eq c) rfl rfl rfl rfl) ?_
  refine step (wp_phaseB A B K 2 c (n := 14) (n' := 15) rfl rfl (off11_eq c) rfl rfl rfl rfl (dev18_eq c) rfl rfl rfl rfl) ?_
  refine step (wp_phaseB A B K 3 c (n := 15) (n' := 16) rfl rfl (off12_eq c) rfl rfl rfl rfl (dev19_eq c) rfl rfl rfl rfl) ?_
  refine step (wp_phaseB A B K 4 c (n := 16) (n' := 17) rfl rfl (off13_eq c) rfl rfl rfl rfl (dev20_eq c) rfl rfl rfl rfl) ?_
  refine step (wp_phaseB A B K 5 c (n := 17) (n' := 18) rfl rfl (off14_eq c) rfl rfl rfl rfl (dev21_eq c) rfl rfl rfl rfl) ?_
  refine (Entails.of_eq (lanes_next _ _ _ (stD A B c) _ _)).trans ?_
  refine step (wp_phaseC A B K 0 c (n := 18) (n' := 19) rfl rfl rfl rfl (off15_eq c) (off16_eq c) (dev22_eq c) rfl rfl rfl rfl) ?_
  refine step (wp_phaseC A B K 1 c (n := 19) (n' := 20) rfl rfl rfl rfl (off17_eq c) (off18_eq c) (dev23_eq c) rfl rfl rfl rfl) ?_
  refine step (wp_phaseC A B K 2 c (n := 20) (n' := 21) rfl rfl rfl rfl (off19_eq c) (off20_eq c) (dev24_eq c) rfl rfl rfl rfl) ?_
  refine step (wp_phaseC A B K 3 c (n := 21) (n' := 22) rfl rfl rfl rfl (off21_eq c) (off22_eq c) (dev25_eq c) rfl rfl rfl rfl) ?_
  refine step (wp_phaseC A B K 4 c (n := 22) (n' := 23) rfl rfl rfl rfl (off23_eq c) (off24_eq c) (dev26_eq c) rfl rfl rfl rfl) ?_
  refine step (wp_phaseC A B K 5 c (n := 23) (n' := 24) rfl rfl rfl rfl (off25_eq c) (off26_eq c) (dev27_eq c) rfl rfl rfl rfl) ?_
  refine (Entails.of_eq (lanes_next _ _ _ (stE A B c) _ _)).trans ?_
  refine step (wp_phaseD A B K 0 c (n := 24) (n' := 25) rfl rfl (off27_eq c) (dev28_eq c) rfl rfl rfl) ?_
  refine step (wp_phaseD A B K 1 c (n := 25) (n' := 26) rfl rfl (off28_eq c) (dev29_eq c) rfl rfl rfl) ?_
  refine step (wp_phaseD A B K 2 c (n := 26) (n' := 27) rfl rfl (off29_eq c) (dev30_eq c) rfl rfl rfl) ?_
  refine step (wp_phaseD A B K 3 c (n := 27) (n' := 28) rfl rfl (off30_eq c) (dev31_eq c) rfl rfl rfl) ?_
  refine step (wp_phaseD A B K 4 c (n := 28) (n' := 29) rfl rfl (off31_eq c) (dev32_eq c) rfl rfl rfl) ?_
  refine step (wp_phaseD A B K 5 c (n := 29) (n' := 30) rfl rfl (off32_eq c) (dev33_eq c) rfl rfl rfl) ?_
  refine (Entails.of_eq (lanes_next _ _ _ (stF A B c) _ _)).trans ?_
  refine step (wp_phaseE A B K 0 c rfl) ?_
  refine step (wp_phaseE A B K 1 c rfl) ?_
  refine step (wp_phaseE A B K 2 c rfl) ?_
  refine step (wp_phaseE A B K 3 c rfl) ?_
  refine step (wp_phaseE A B K 4 c rfl) ?_
  refine step (wp_phaseE A B K 5 c rfl) ?_
  refine (waits_start A B _ c _).trans ?_
  refine step (wp_over A B K 0 0 c rfl rfl) ?_
  refine step (wp_over A B K 0 1 c rfl rfl) ?_
  refine step (wp_over A B K 0 2 c rfl rfl) ?_
  refine step (wp_over A B K 0 3 c rfl rfl) ?_
  refine step (wp_over A B K 0 4 c rfl rfl) ?_
  refine step (wp_over A B K 0 5 c rfl rfl) ?_
  refine (waits_next A B _ c 0 1 _ _ _).trans ?_
  refine step (wp_over A B K 1 0 c rfl rfl) ?_
  refine step (wp_over A B K 1 1 c rfl rfl) ?_
  refine step (wp_over A B K 1 2 c rfl rfl) ?_
  refine step (wp_over A B K 1 3 c rfl rfl) ?_
  refine step (wp_over A B K 1 4 c rfl rfl) ?_
  refine step (wp_over A B K 1 5 c rfl rfl) ?_
  refine (waits_next A B _ c 1 2 _ _ _).trans ?_
  refine step (wp_over A B K 2 0 c rfl rfl) ?_
  refine step (wp_over A B K 2 1 c rfl rfl) ?_
  refine step (wp_over A B K 2 2 c rfl rfl) ?_
  refine step (wp_over A B K 2 3 c rfl rfl) ?_
  refine step (wp_over A B K 2 4 c rfl rfl) ?_
  refine step (wp_over A B K 2 5 c rfl rfl) ?_
  refine (waits_next A B _ c 2 3 _ _ _).trans ?_
  refine step (wp_over A B K 3 0 c rfl rfl) ?_
  refine step (wp_over A B K 3 1 c rfl rfl) ?_
  refine step (wp_over A B K 3 2 c rfl rfl) ?_
  refine step (wp_over A B K 3 3 c rfl rfl) ?_
  refine step (wp_over A B K 3 4 c rfl rfl) ?_
  refine step (wp_over A B K 3 5 c rfl rfl) ?_
  refine (waits_next A B _ c 3 4 _ _ _).trans ?_
  refine step (wp_over A B K 4 0 c rfl rfl) ?_
  refine step (wp_over A B K 4 1 c rfl rfl) ?_
  refine step (wp_over A B K 4 2 c rfl rfl) ?_
  refine step (wp_over A B K 4 3 c rfl rfl) ?_
  refine step (wp_over A B K 4 4 c rfl rfl) ?_
  refine step (wp_over A B K 4 5 c rfl rfl) ?_
  unfold run
  rw [wp_ret]
  iintro H
  imodintro
  iapply (body_end A B (Know A B K) c (Q ⟨⟩))
  iexact H

end Body

end Cert.KernelIdealProof

end
-- ==== Proof.KernelIdeal.Deal.lean ====
/-
# What the launch deals

The launch element funds every cell of every device; the cells' invariants are allocated for all devices at once. The
duty tokens are minted with the cells they belong to and carried to the devices that pay them: a barrier cell's token of
an axis to the neighbour across it, a receive cell's token to the partner of its transfer — each an exchange of pairs of
devices. The credits a device waits with are what the others owe its cells.
-/
module

public import proofs.«01_k».proof.Proof.KernelIdeal.Body

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The cells of a device -/

/-- The kernel's own semaphores: the send and receive semaphores. -/
abbrev osem : Bool × Fin 5 × Fin 6 → SemLoc sig := fun k => csem (some k)

theorem csem_injective : Function.Injective csem := fun a b h => by
  have h' := congrArg ciOf h
  rw [ciOf_csem, ciOf_csem] at h'
  exact Option.some.inj h'

theorem cellAt_injective : Function.Injective (cellAt : Dev nD × CI → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Something for each of a device's cells: for the barrier cell, for the send cells, for the receive cells. -/
theorem cells_eq (Φ : CI → sProp 𝕄) : bigSep Finset.univ Φ
    = iprop(Φ none ∗ (bigSep Finset.univ fun k : Fin 5 × Fin 6 => Φ (some (false, k.1, k.2))) ∗ bigSep Finset.univ fun k : Fin 5 × Fin 6 => Φ (some (true, k.1, k.2))) := by
  have hu : (Finset.univ : Finset CI) = insert none (Finset.univ.map Function.Embedding.some) := by
    ext k; cases k <;> simp
  rw [hu, bigSep_insert (by simp), bigSep_map, bigSep_univ_prod, bigSep_univ_eq_bigSepL [false, true] (by decide) (by decide)]
  rfl

/-- Something for each of its own semaphores. -/
theorem own_eq (Φ : Bool × Fin 5 × Fin 6 → sProp 𝕄) : bigSep Finset.univ Φ
    = iprop((bigSep Finset.univ fun k : Fin 5 × Fin 6 => Φ (false, k.1, k.2)) ∗ bigSep Finset.univ fun k : Fin 5 × Fin 6 => Φ (true, k.1, k.2)) := by
  rw [bigSep_univ_prod, bigSep_univ_eq_bigSepL [false, true] (by decide) (by decide)]
  rfl

def allCells : Finset (GSem nD τ sig) := Finset.univ.map ⟨cellAt, cellAt_injective⟩

/-- The duty tokens minted: three for every cell. -/
abbrev tokOf (x : Dev nD × CI × Fin 3) : GSem nD τ sig × ℕ × Fin 3 := (cellAt (x.1, x.2.1), 0, x.2.2)

theorem tokOf_injective : Function.Injective tokOf := by
  rintro ⟨c, k, d⟩ ⟨c', k', d'⟩ h
  have h1 := cellAt_injective (congrArg Prod.fst h)
  have h2 : d = d' := congrArg (fun x : GSem nD τ sig × ℕ × Fin 3 => x.2.2) h
  have h3 : c = c' := congrArg Prod.fst h1
  have h4 : k = k' := congrArg Prod.snd h1
  rw [h2, h3, h4]

def allToks : Finset (GSem nD τ sig × ℕ × Fin 3) := Finset.univ.map ⟨tokOf, tokOf_injective⟩

/-- The launch element: the pipeline's own and the protocol's. -/
def u₀ : UU :=
  (initOf (Pipeline.cells cfgs cellOf_inj) (Pipeline.launchToks cfgs cellOf_inj), initOf allCells allToks)

/-- The tokens of a device's own cells. -/
def mint (c : Dev nD) : sProp 𝕄 :=
  iprop((dutyTok ER (barCell c) 0 0 ∗ dutyTok ER (barCell c) 0 1 ∗ dutyTok ER (barCell c) 0 2)
    ∗ (bigSep Finset.univ fun k : Fin 5 × Fin 6 => dutyTok ER (sendCell k.1 k.2 c) 0 0)
    ∗ bigSep Finset.univ fun k : Fin 5 × Fin 6 => dutyTok ER (recvCell k.1 k.2 c) 0 0)

theorem mint_intro (c : Dev nD) :
    (bigSep Finset.univ fun k : CI => bigSep Finset.univ fun d : Fin 3 => (dutyTok ER (cellAt (c, k)) 0 d : sProp 𝕄)) ⊢ mint (F := F) c := by
  have h0 : ∀ k : CI, (bigSep Finset.univ fun d : Fin 3 => (dutyTok ER (cellAt (c, k)) 0 d : sProp 𝕄)) ⊢ dutyTok ER (cellAt (c, k)) 0 0 :=
    fun k => bigSep_elim (Finset.mem_univ (0 : Fin 3))
  rw [cells_eq]
  unfold mint
  refine sep_mono (Entails.of_eq (bigSep_univ_eq_bigSepL [0, 1, 2] (by decide) (by decide) _)) (sep_mono (bigSep_mono fun k _ => h0 _) (bigSep_mono fun k _ => h0 _))

/-- The tokens of the duties a device pays. -/
def pays (c : Dev nD) : sProp 𝕄 :=
  iprop((dutyTok ER (barCell (flip 0 c)) 0 0 ∗ dutyTok ER (barCell (flip 1 c)) 0 1 ∗ dutyTok ER (barCell (flip 2 c)) 0 2)
    ∗ (bigSep Finset.univ fun k : Fin 5 × Fin 6 => dutyTok ER (sendCell k.1 k.2 c) 0 0)
    ∗ bigSep Finset.univ fun k : Fin 5 × Fin 6 => dutyTok ER (recvCell k.1 k.2 (par k.1 k.2 c)) 0 0)

/-- The tokens carried to the devices that pay them. -/
theorem carried : (bigSep Finset.univ fun c : Dev nD => (mint (F := F) c : sProp 𝕄)) ⊢ bigSep Finset.univ fun c : Dev nD => pays (F := F) c := by
  have hb : ∀ b : Fin 3, (bigSep Finset.univ fun c : Dev nD => (dutyTok ER (barCell c) 0 b : sProp 𝕄))
      = bigSep Finset.univ fun c : Dev nD => dutyTok ER (barCell (flip b c)) 0 b :=
    fun b => bigSep_univ_equiv (flipE b) fun c : Dev nD => (dutyTok ER (barCell c) 0 b : sProp 𝕄)
  have hr : (bigSep Finset.univ fun c : Dev nD => bigSep Finset.univ fun k : Fin 5 × Fin 6 => (dutyTok ER (recvCell k.1 k.2 c) 0 0 : sProp 𝕄))
      = bigSep Finset.univ fun c : Dev nD => bigSep Finset.univ fun k : Fin 5 × Fin 6 => dutyTok ER (recvCell k.1 k.2 (par k.1 k.2 c)) 0 0 := by
    rw [bigSep_univ_comm, bigSep_univ_comm (fun (c : Dev nD) (k : Fin 5 × Fin 6) => (dutyTok ER (recvCell k.1 k.2 (par k.1 k.2 c)) 0 0 : sProp 𝕄))]
    exact bigSep_congr fun k _ => bigSep_univ_equiv (parE k.1 k.2) fun c : Dev nD => (dutyTok ER (recvCell k.1 k.2 c) 0 0 : sProp 𝕄)
  unfold mint pays
  rw [bigSep_sep', bigSep_sep', bigSep_sep', bigSep_sep', bigSep_sep', bigSep_sep', bigSep_sep', bigSep_sep', hb 0, hb 1, hb 2, hr]

section Launch

variable (A : Dev nD → Vec F S768x384 .bf16) (B : Dev nD → Vec F S384x768 .bf16)

/-! ## The global step -/

/-- What the launch element deals device `c`. -/
def G (c : Dev nD) : sProp 𝕄 :=
  iprop((bigSep Finset.univ fun k : CI => roundState ER (sched A B) (cellAt (c, k)) 0)
    ∗ (bigSep Finset.univ fun k : CI => iprop(atPos ER (cellAt (c, k)) 0 ∅ 0 ∗ reached ER (cellAt (c, k)) 0)) ∗ mint (F := F) c)

theorem fund_all : BI.own (ER (initOf allCells allToks)) ⊢ (|==> bigSep Finset.univ (G A B) : sProp 𝕄) := by
  have hX (Φ : GSem nD τ sig → sProp 𝕄) : bigSep allCells Φ = bigSep Finset.univ fun c : Dev nD => bigSep Finset.univ fun k : CI => Φ (cellAt (c, k)) := by
    unfold allCells; rw [bigSep_map, bigSep_univ_prod]; rfl
  have hT : bigSep allToks (fun x => (dutyTok ER x.1 x.2.1 x.2.2 : sProp 𝕄)) ⊢ bigSep Finset.univ fun c : Dev nD => mint (F := F) c := by
    unfold allToks; rw [bigSep_map, bigSep_univ_prod]
    refine bigSep_mono fun c _ => ?_
    rw [bigSep_univ_prod]
    exact mint_intro c
  iintro HX
  imod (Rounds.fund ER (sched A B) allCells allToks) $$ HX with ⟨Hst, Hr, Hat, Htok⟩
  imodintro
  ihave Hst' := (Entails.of_eq (hX fun g => roundState ER (sched A B) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (cellAt (c, k)) 0 : sProp 𝕄) := by
  unfold Pipeline.ownSems0
  rw [own_eq, unscopedSems0_eq, cells_eq]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun k => iprop(∃ κ : ℕ, cellInv ER (sched A B) κ (cellAt (c, k))))
          ∗ (bigSep Finset.univ fun k => iprop(atPos ER (cellAt (c, k)) 0 ∅ 0 ∗ reached ER (cellAt (c, k)) 0)) ∗ mint (F := F) c) := by
  have ha : iprop((bigSep Finset.univ fun k : CI => semVal (cellAt (c, k)) 0) ∗ bigSep Finset.univ fun k : CI => roundState ER (sched A B) (cellAt (c, k)) 0)
      ⊢ (|={Set.univ}=> bigSep Finset.univ fun k => iprop(∃ κ : ℕ, cellInv ER (sched A B) κ (cellAt (c, k))) : sProp 𝕄) := by
    rw [← bigSep_sep']
    exact (bigSep_mono fun k _ => (Rounds.body_intro ER (sched A B) (cellAt (c, k))).trans inv_alloc).trans (bigSep_fupd _ _)
  unfold G
  iintro ⟨Hos, Hus, Hst, Hat, Htok⟩
  ihave Hv := (sems0 (F := F) c) $$ [Hos Hus]
  · isplitl [Hos] <;> iassumption
  imod ha $$ [Hv Hst] with Hinv
  · isplitl [Hv] <;> iassumption
  imodintro
  isplitl [Hinv]; · iexact Hinv
  isplitl [Hat]; · iexact Hat
  iexact Htok

/-- What every device knows of the cells, the levels apart. -/
def records (K : Dev nD × CI → ℕ) : sProp 𝕄 :=
  iprop((bigSep Finset.univ fun p => cellInv ER (sched A B) (K p) (cellAt p)) ∗ bigSep Finset.univ fun p => reached ER (cellAt p) 0)

instance records_persistent (K : Dev nD × CI → ℕ) : BI.Persistent (records A B K) := by unfold records; infer_instance

/-- What the global step leaves with device `c`: what it knows, its positions, the tokens it pays with. -/
def G' (c : Dev nD) : sProp 𝕄 :=
  iprop(∃ K, records A B K ∗ (bigSep Finset.univ fun k : CI => atPos ER (cellAt (c, k)) 0 ∅ 0) ∗ pays (F := F) c)

theorem known_by {P : sProp 𝕄} [BI.Persistent P] {Φ Ψ : Dev nD → sProp 𝕄} (h : ∀ c, iprop(P ∗ Φ c) ⊢ Ψ c) :
    iprop(P ∗ bigSep Finset.univ Φ) ⊢ bigSep Finset.univ Ψ :=
  (sep_mono_left (BI.bigSep_of_persistent Finset.univ P)).trans (by rw [← bigSep_sep']; exact bigSep_mono fun c _ => h c)

theorem regroup :
    (bigSep Finset.univ fun c : Dev nD => iprop((bigSep Finset.univ fun k => iprop(∃ κ : ℕ, cellInv ER (sched A B) κ (cellAt (c, k))))
          ∗ (bigSep Finset.univ fun k => iprop(atPos ER (cellAt (c, k)) 0 ∅ 0 ∗ reached ER (cellAt (c, k)) 0)) ∗ mint (F := F) c) : sProp 𝕄)
      ⊢ bigSep Finset.univ (G' A B) := by
  have hk : ∀ (K : Dev nD × CI → ℕ) (c : Dev nD),
      iprop(records A B K ∗ (bigSep Finset.univ fun k : CI => atPos ER (cellAt (c, k)) 0 ∅ 0) ∗ pays (F := F) c) ⊢ G' A B c := fun K c => by
    unfold G'; iintro H; iexists K; iexact H
  rw [bigSep_sep', bigSep_sep', ← bigSep_univ_prod (fun p : Dev nD × CI => iprop(∃ κ : ℕ, cellInv ER (sched A B) κ (cellAt p))),
    bigSep_congr (s := Finset.univ) (fun (c : Dev nD) _ => bigSep_sep' Finset.univ (fun k : CI => (atPos ER (cellAt (c, k)) 0 ∅ 0 : sProp 𝕄)) (fun k => reached ER (cellAt (c, k)) 0)),
    bigSep_sep', ← bigSep_univ_prod (fun p : Dev nD × CI => (reached ER (cellAt p) 0 : sProp 𝕄))]
  iintro ⟨HI, ⟨Hat, #HR⟩, Htok⟩
  ihave HK := (BI.bigSep_exists_pi Finset.univ (fun (p : Dev nD × CI) (κ : ℕ) => (cellInv ER (sched A B) κ (cellAt p) : sProp 𝕄))) $$ HI
  icases HK with ⟨%K, #HI⟩
  ihave Htk := (carried (F := F)) $$ Htok
  iapply (known_by (hk K))
  isplitr
  · unfold records; isplitl; · iexact HI
    iexact HR
  · iapply (Entails.of_eq (bigSep_sep' Finset.univ (fun c : Dev nD => bigSep Finset.univ fun k : CI => (atPos ER (cellAt (c, k)) 0 ∅ 0 : sProp 𝕄)) (pays (F := F))).symm)
    isplitl [Hat]; · iexact Hat
    iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (regroup A B))

end Launch

/-! ## The launch credit -/

theorem tally_other {g g' : GSem nD τ sig} {n : ℕ} {u : Unit} (h : g ≠ g') : (tallyAt g' () n : CellTallies nD τ sig Unit) g u = 0 := by
  rw [tallyAt_apply, if_neg fun h' => h h'.1]

theorem cell_eq {a b : Dev nD} {k k' : CI} (h : cellAt (a, k) = cellAt (b, k')) : a = b ∧ k = k' := by
  have := cellAt_injective h
  exact ⟨congrArg Prod.fst this, congrArg Prod.snd this⟩

theorem bar_send (b : Fin 3) (d c : Dev nD) : (tallyAt (barCell (flip b d)) () 1 : CellTallies nD τ sig Unit) (barCell c) () = if d = flip b c then 1 else 0 := by
  by_cases h : d = flip b c
  · subst h; rw [flip_flip, tallyAt_apply, if_pos ⟨rfl, rfl⟩, if_pos rfl]
  · rw [if_neg h, tally_other]
    intro h'
    have h1 : c = flip b d := (cell_eq (k := none) (k' := none) h').1
    exact h (by rw [h1, flip_flip])

theorem bar_recv (b : Fin 3) (r : Fin 5) (li : Fin 6) (d c : Dev nD) :
    (tallyAt (barCell (flip b d)) () 1 : CellTallies nD τ sig Unit) (recvCell r li c) () = 0 :=
  tally_other fun h => nomatch (cell_eq (k := some (true, r, li)) (k' := none) h).2

theorem Orem_bar (d c : Dev nD) : Orem 0 d (barCell c) () = 0 := by
  unfold Orem
  rw [Finset.sum_apply, Finsupp.finset_sum_apply]
  exact Finset.sum_eq_zero fun k _ => tally_other fun h => nomatch (cell_eq (k := none) (k' := some (true, k.1, k.2)) h).2

theorem Orem_recv (r : Fin 5) (li : Fin 6) (d c : Dev nD) : Orem 0 d (recvCell r li c) () = if d = par r li c then amt r else 0 := by
  unfold Orem
  rw [Finset.sum_apply, Finsupp.finset_sum_apply, Finset.sum_eq_single (r, li)]
  · by_cases h : d = par r li c
    · subst h; rw [if_pos rfl, par_par, tallyAt_apply, if_pos ⟨rfl, rfl⟩]
    · rw [if_neg h, tally_other]
      intro h'
      have h1 : c = par r li d := (cell_eq (k := some (true, r, li)) (k' := some (true, r, li)) h').1
      exact h (by rw [h1, par_par])
  · intro k _ hk
    refine tally_other fun h => hk ?_
    have h1 := (cell_eq (k := some (true, r, li)) (k' := some (true, k.1, k.2)) h).2
    injection h1 with h1
    exact (Prod.mk.inj h1).2.symm
  · intro h; exact absurd (Finset.mem_filter.mpr ⟨Finset.mem_univ (r, li), Nat.zero_le (ord (r, li))⟩) h

theorem launch_bar (c : Dev nD) :
    tallyOn (barCell c) (launchCredit (Pipeline.owing O₀) 0 (barCell c)) = (tallyAt (barCell c) () 3 : CellTallies nD τ sig Unit) := by
  have h : ∀ d : Dev nD, O₀ d (barCell c) () = (if d = flip 2 c then 1 else 0) + (if d = flip 1 c then 1 else 0) + (if d = flip 0 c then 1 else 0) := fun d => by
    unfold O₀ O₁ O₂
    rw [Pi.add_apply, Finsupp.add_apply, Pi.add_apply, Finsupp.add_apply, Pi.add_apply, Finsupp.add_apply, Orem_bar, bar_send, bar_send, bar_send, Nat.zero_add]
  unfold tallyAt; refine congrArg _ (Finsupp.ext fun u => ?_); cases u
  rw [Pipeline.launchCredit_owing, Finsupp.single_eq_same, Finset.sum_congr rfl fun d _ => h d, Finset.sum_add_distrib, Finset.sum_add_distrib,
    Finset.sum_ite_eq' Finset.univ (flip 2 c) fun _ => 1, Finset.sum_ite_eq' Finset.univ (flip 1 c) fun _ => 1, Finset.sum_ite_eq' Finset.univ (flip 0 c) fun _ => 1,
    if_pos (Finset.mem_univ _), if_pos (Finset.mem_univ _), if_pos (Finset.mem_univ _)]

theorem launch_recv (r : Fin 5) (li : Fin 6) (c : Dev nD) :
    tallyOn (recvCell r li c) (launchCredit (Pipeline.owing O₀) 0 (recvCell r li c)) = (tallyAt (recvCell r li c) () (amt r) : CellTallies nD τ sig Unit) := by
  have h : ∀ d : Dev nD, O₀ d (recvCell r li c) () = if d = par r li c then amt r else 0 := fun d => by
    unfold O₀ O₁ O₂
    rw [Pi.add_apply, Finsupp.add_apply, Pi.add_apply, Finsupp.add_apply, Pi.add_apply, Finsupp.add_apply, Orem_recv, bar_recv, bar_recv, bar_recv]
    rfl
  unfold tallyAt; refine congrArg _ (Finsupp.ext fun u => ?_); cases u
  rw [Pipeline.launchCredit_owing, Finsupp.single_eq_same, Finset.sum_congr rfl fun d _ => h d, Finset.sum_ite_eq' Finset.univ (par r li c) fun _ => amt r,
    if_pos (Finset.mem_univ _)]

/-- The credits a device starts with: its three neighbours' signals, its partners' transfers. -/
theorem creds (c : Dev nD) :
    (Pipeline.launchCred O₀ c : sProp 𝕄)
      ⊢ iprop(cred (tallyAt (barCell c) () 3) ∗ bigSep Finset.univ fun k : Fin 5 × Fin 6 => cred (tallyAt (recvCell k.1 k.2 c) () (amt k.1))) := by
  have h0 : (Pipeline.launchCred O₀ c : sProp 𝕄)
      ⊢ bigSep (Finset.univ.map ⟨csem, csem_injective⟩) fun sm : SemLoc sig => cred (tallyOn ((c : Thread nD τ), sm) (launchCredit (Pipeline.owing O₀) 0 ((c : Thread nD τ), sm))) :=
    bigSep_subset (Finset.subset_univ _)
  have h2 : (bigSep Finset.univ fun k : Fin 5 × Fin 6 => (cred (tallyOn (recvCell k.1 k.2 c) (launchCredit (Pipeline.owing O₀) 0 (recvCell k.1 k.2 c))) : sProp 𝕄))
      = bigSep Finset.univ fun k : Fin 5 × Fin 6 => cred (tallyAt (recvCell k.1 k.2 c) () (amt k.1)) :=
    bigSep_congr fun k _ => congrArg (fun t => (cred t : sProp 𝕄)) (launch_recv k.1 k.2 c)
  refine h0.trans ?_
  rw [bigSep_map, cells_eq]
  iintro ⟨H0, -, H2⟩
  isplitl [H0]
  · iapply (Entails.of_eq (congrArg (fun t => (cred t : sProp 𝕄)) (launch_bar c))); iexact H0
  · iapply (Entails.of_eq h2); iexact H2

end Cert.KernelIdealProof

end
-- ==== Proof.KernelIdeal.Launch.lean ====
/-
# The kernel from launch to finish

The proof data of the one pipelined region — the operands staged in, the finished result staged out —, the body's
obligation from the body's run, and the launch: on every device the result array ends at `outG`, the operands and every
semaphore as they were.
-/
module

public import proofs.«01_k».proof.Proof.KernelIdeal.Deal
public import proofs.«01_k».proof.Proof.Gen.KernelIdeal.Points
public import Idealize.ShloMosaic.Lib.Quiescent
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def s₀ : MemSt nD τ sig (Elt F) := ⟨m, fun _ => 0, ρ⟩

/-- Device `c`'s columns of the left operand, -/
def opA (c : Dev nD) : Vec F S768x384 .bf16 := (win0_0.blk (0 : Fin 1)).view.read (Elt F) (m ((c : Thread nD τ).loc main_arg0))
/-- and its rows of the right one. -/
def opB (c : Dev nD) : Vec F S384x768 .bf16 := (win0_1.blk (0 : Fin 1)).view.read (Elt F) (m ((c : Thread nD τ).loc main_arg1))

/-- Before the body: the kernel's own buffers and what the protocol gives. -/
def Φ₀ (c : Dev nD) : sProp 𝕄 := iprop((∃ K, Know (opA m) (opB m) K ∗ rights (F := F) c) ∗ rooms (F := F) c)
/-- After it: the buffers, and every cell at zero. -/
def Φ₁ (c : Dev nD) : sProp 𝕄 := iprop(rooms (F := F) c ∗ semVal (barCell c) 0 ∗ bigSep Finset.univ (zeros (F := F) c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => opA m c
    | ⟨1, _⟩ => opB m c
    | ⟨2, _⟩ => outG (opA m) (opB m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A window's staging buffer holds `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_pts (c : Dev nD) (b : Ref sig .tc) (X : b.ty.Contents (Elt F)) : (stg c b X : sProp 𝕄) ⊢ pts c b Finset.univ fullShare X := by
  iintro ⟨%f, %h, H⟩; subst h; iexact H
theorem pts_stg (c : Dev nD) (b : Ref sig .tc) (X : b.ty.Contents (Elt F)) : (pts c b Finset.univ fullShare X : sProp 𝕄) ⊢ stg c b X := by
  iintro H; iexists X; isplitr; · (ipureintro; rfl)
  iexact H

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ c ∗ (dats m ρ 0 c).owesAt () t0_0.succ
    ∗ stg c cc0_stg0_0 (opA m c) ∗ stg c cc0_stg1_0 (opB m c) ∗ stg c cc0_stg2_0 (outG (opA m) (opB m) c))

/-- The windows of the two operands have them when the body starts. -/
theorem before0 (c : Dev nD) (d) : (dats m ρ 0 c).before (0 : Fin 3) t0_0 d = opA m c := by
  unfold Dat.before; rw [if_pos (fetch0_0 t0_0)]; rfl
theorem before1 (c : Dev nD) (d) : (dats m ρ 0 c).before (1 : Fin 3) t0_0 d = opB m c := by
  unfold Dat.before; rw [if_pos (fetch0_1 t0_0)]; rfl

theorem pre_in (c : Dev nD) : bodyPre m ρ c ⊢ iprop(∃ K, Know (opA m) (opB m) K ∗ bodyIn (opA m) (opB m) c) := by
  unfold bodyPre Φ₀ bodyIn Dat.owesAt Pipeline.owesWithin
  iintro ⟨⟨⟨%K, HK, Hr⟩, Hrooms⟩, ⟨%W, %hW, HO⟩, ⟨%d0, H0⟩, ⟨%d1, H1⟩, ⟨%d2, H2⟩⟩
  iexists K
  isplitl [HK]; · iexact HK
  isplitl [H0]; · iapply (stg_pts c cc0_stg0_0 (opA m c)); rw [← before0 m ρ c d0]; iexact H0
  isplitl [H1]; · iapply (stg_pts c cc0_stg1_0 (opB m c)); rw [← before1 m ρ c d1]; iexact H1
  isplitl [H2]; · iexists _; iapply (stg_pts c cc0_stg2_0 _); iexact H2
  isplitl [Hrooms]; · iexact Hrooms
  isplitl [Hr]; · iexact Hr
  unfold owesE
  iexists W; iexact HO

theorem out_post (c : Dev nD) : bodyOut (opA m) (opB m) c ⊢ bodyPost m ρ c := by
  unfold bodyPost Φ₁ bodyOut owesE Dat.owesAt Pipeline.owesWithin
  iintro ⟨H0, H1, H2, Hrooms, ⟨Hb, Hz⟩, ⟨%W, HO⟩⟩
  isplitl [Hrooms Hb Hz]
  · isplitl [Hrooms]; · iexact Hrooms
    isplitl [Hb]; · iexact Hb
    iexact Hz
  isplitl [HO]
  · iexists W
    isplitr; · ipureintro; exact fun _ _ => Or.inl trivial
    iexact HO
  isplitl [H0]; · iapply (pts_stg c cc0_stg0_0 (opA m c)); iexact H0
  isplitl [H1]; · iapply (pts_stg c cc0_stg1_0 (opB m c)); iexact H1
  iapply (pts_stg c cc0_stg2_0 (outG (opA m) (opB m) c)); iexact H2

theorem sound (c : Dev nD) : bodyPre m ρ c ⊢ run c (theBody (F := F)) (fun _ => bodyPost m ρ c) := by
  iintro H
  ihave H := (pre_in m ρ c) $$ H
  icases H with ⟨%K, HK, Hi⟩
  iapply (body (opA m) (opB m) K c fun _ => bodyPost m ρ c) $$ [HK Hi]
  · isplitl [HK]; · iexact HK
    iexact Hi
  iintro Ho
  iapply (out_post m ρ c); iexact Ho

set_option maxRecDepth 20000 in
/-- The body obligation of the region, on every device. -/
theorem body_obligation (c : Dev nD) : BodyObligation (dats (F := F) m ρ 0 c) (defs₀ (F := F)) 𝒱₀ () Set.univ := fun t => by
  rw [fin_N0 t]
  have hW : ∀ Φ : Fin cfg0.W → sProp 𝕄, bigSep Finset.univ Φ = iprop(Φ (0 : Fin 3) ∗ Φ (1 : Fin 3) ∗ Φ (2 : Fin 3)) := fun Φ => bigSep_W0 Φ
  rw [hW, hW]
  simp only [owns_whole_eq]
  exact sound m ρ c

/-! ## The launch's side conditions -/

theorem ownSemFacts : Pipeline.OwnSemFacts cfg0.spec osem :=
  ⟨by decide +kernel, fun a b h => Option.some.inj (csem_injective h), by decide +kernel⟩

theorem share_eq (c : Dev nD) (w : Fin cfg0.W) : (dats m ρ 0 c).share w = fullShare := by unfold Dat.share; split <;> rfl

/-- What a device starts with, its buffers apart. -/
def start (c : Dev nD) : sProp 𝕄 := iprop(∃ K, Know (opA m) (opB m) K ∗ rights (F := F) c)

/-- What a device knows and the rights it has, from what the global step and the launch leave it. -/
theorem rights_intro (K : Dev nD × CI → ℕ) (c : Dev nD) :
    iprop(records (opA m) (opB m) K ∗ levAts L lv ∗ (bigSep Finset.univ fun k : CI => atPos ER (cellAt (c, k)) 0 ∅ 0) ∗ pays (F := F) c
        ∗ cred (tallyAt (barCell c) () 3) ∗ bigSep Finset.univ fun k : Fin 5 × Fin 6 => cred (tallyAt (recvCell k.1 k.2 c) () (amt k.1)))
      ⊢ iprop(Know (opA m) (opB m) K ∗ rights (F := F) c) := by
  rw [cells_eq]
  unfold records Know rights pays toks due
  rw [bigSep_sep', bigSep_sep', bigSep_sep']
  iintro ⟨⟨H1, H2⟩, H3, ⟨Ab, As, Ar⟩, ⟨Tb, Ts, Tr⟩, Cb, Cr⟩
  isplitl [H1 H2 H3]
  · isplitl [H1]; · iexact H1
    isplitl [H2] <;> iassumption
  isplitl [Tb]; · iexact Tb
  isplitl [Ab]; · iexact Ab
  isplitl [Cb]; · iexact Cb
  isplitl [Ts Tr As]
  · isplitl [Ts]; · iexact Ts
    isplitl [Tr]; · iexact Tr
    iexact As
  isplitl [Ar]; · iexact Ar
  iexact Cr

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (opA m) (opB m) c)
      ⊢ |={Set.univ}=> iprop(start m c ∗ emp) := by
  unfold start G'
  iintro ⟨-, Hlev, Hcr, -, ⟨%K, HR, Hat, Hp⟩⟩
  ihave Hc := (creds (F := F) c) $$ Hcr
  icases Hc with ⟨H1, HN⟩
  imodintro
  isplitl
  · iexists K
    iapply (rights_intro m K c)
    isplitl [HR]; · iexact HR
    isplitl [Hlev]; · iexact Hlev
    isplitl [Hat]; · iexact Hat
    isplitl [Hp]; · iexact Hp
    isplitl [H1]; · iexact H1
    iexact HN
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start rooms
  iintro ⟨Hs, -, Hr⟩
  isplitl [Hs]; · iexact Hs
  iexact Hr

/-- All the kernel's own cells at zero, lane by lane and cell by cell. -/
theorem zeros_own (c : Dev nD) : bigSep Finset.univ (zeros (F := F) c)
    = (Pipeline.ownSems0 (Ix := Unit) (Name := ℕ) (U := UU) (Lvl := ℕ) (Val := Elt F) (τ := τ) osem c : sProp 𝕄) := by
  have hs := transfers_eq (F := F) fun r li => semVal (sendCell r li c) 0
  have hr := transfers_eq (F := F) fun r li => semVal (recvCell r li c) 0
  unfold Pipeline.ownSems0 zeros
  rw [own_eq]
  refine Eq.trans ?_ (congrArg₂ BI.sep hs hr).symm
  simp only [bigSep_sep']
  rfl

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ← zeros_own, unscopedSems0_eq]
  unfold Φ₁ rooms
  iintro ⟨Hr, Hb, Hz⟩
  isplitl [Hb]; · iexact Hb
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Device `c`'s array of window `w` at the end. -/
def finalA (c : Dev nD) (w : Fin cfg0.W) : Buf (Elt F) ((cfg0.win w).arr.view.loc (c : Thread nD τ)) := (dats m ρ 0 c).arrAt w cfg0.N

/-- Every device's arrays are the final ones. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 40000 in
/-- On the mesh of eight devices, from any memory with zero counters: every weakly fair execution ends, with every device's
    arrays the final ones and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (opA m) (opB m)) (G' := G' (opA m) (opB m)) (u₀ := u₀)
    (hu₀ := by
      unfold u₀
      iintro Hu
      ihave H := (ownU_pair _ _) $$ Hu
      icases H with ⟨HP, HX⟩
      imod (fund_all (opA m) (opB m)) $$ HX with HG
      imodintro
      isplitl [HP] <;> iassumption)
    (hglob := glob (opA m) (opB m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- A run that ends so leaves the operands as they were. -/
theorem kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨(h c (0 : Fin 3)).trans ((dats (F := F) m ρ 0 c).arrAt_in (0 : Fin 3) rfl _),
    (h c (1 : Fin 3)).trans ((dats (F := F) m ρ 0 c).arrAt_in (1 : Fin 3) rfl _)⟩

/-- The frame: the operands end as they were, the machine quiescent. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨kept m ρ h.1, h.2⟩) (run_main m ρ)

end Cert.KernelIdealProof

end
-- ==== Proof.Value.lean ====
/-
# The result over the extended reals

Over the extended reals the stored products are exact sums and the change of format does nothing, so the result each
device holds is, at every index, the sum over the eight devices of their partial products (`outG_sum`). The devices'
operands being the blocks of the whole ones, that is the product of the whole operands (`outG_dot`); and `outG` is what
the run leaves in the result array (`finalA_out`).
-/
module

public import proofs.«01_k».proof.Proof.KernelIdeal.Launch
public import proofs.«01_k».proof.Proof.Gen.ReferenceIdeal
public import Idealize.ShloMosaic.Lib.MatmulPlain
public import Idealize.ShloMosaic.Lib.StackMember

@[expose] public section

noncomputable section

namespace Cert.KernelIdealProof

open Cert.KernelIdeal Cert.KernelIdeal.Gen
open Idealize.ShloMosaic Idealize.ShloMosaic.TcCoe Idealize.SL.Sem
open scoped BigOperators

/-! ## Sums over the devices -/

/-- The eight devices as a lane's three exchanges reach them from any one. -/
def reached (li : Fin 6) (c : Dev nD) : List (Dev nD) :=
  [c, par 0 li c, par 1 li c, par 0 li (par 1 li c),
   par 2 li c, par 0 li (par 2 li c), par 1 li (par 2 li c), par 0 li (par 1 li (par 2 li c))]

theorem reached_nodup (li : Fin 6) (c : Dev nD) : (reached li c).Nodup := by revert li c; decide
theorem reached_all (li : Fin 6) (c : Dev nD) : (reached li c).toFinset = Finset.univ := by revert li c; decide

/-- Summing pairwise along the three exchanges is summing over the devices. -/
theorem sum_reached (f : Dev nD → EReal) (li : Fin 6) (c : Dev nD) :
    ((f c + f (par 0 li c)) + (f (par 1 li c) + f (par 0 li (par 1 li c))))
      + ((f (par 2 li c) + f (par 0 li (par 2 li c))) + (f (par 1 li (par 2 li c)) + f (par 0 li (par 1 li (par 2 li c)))))
      = ∑ d, f d := by
  rw [← reached_all li c, List.sum_toFinset f (reached_nodup li c)]
  simp only [reached, List.map_cons, List.map_nil, List.sum_cons, List.sum_nil, add_zero, add_assoc]

section Sums

variable (A : Dev nD → Vec Ideal S768x384 .bf16) (B : Dev nD → Vec Ideal S384x768 .bf16)

/-- Device `d`'s share of the product at row `r`, column `x`. -/
def share (r x : Fin 768) (d : Dev nD) : EReal := ∑ k : Fin 384, (A d (at2 r k) * B d (at2 k x) : EReal)

theorem pay7_apply (v : Vec Ideal S384x384 .bf16) (w : Vec Ideal S384x256 .bf16) (r : Fin 384) (x : Fin 256) :
    k0_pay7 (F := Ideal) v w (at2 r x) = ∑ k : Fin 384, (v (at2 r k) * w (at2 k x) : EReal) := by
  have h := Ideal.matmul_plain_apply (M := 384) (K := 384) (N := 256) (φ₁ := .bf16) (φ₂ := .bf16) none v w (constant (F := Ideal) S384x256 .f32 0x00000000#32) r x
  have hz : (constant (F := Ideal) S384x256 .f32 0x00000000#32) (at2 r x) = (0 : EReal) := Ideal.ofBits_zero_f32
  rw [hz, zero_add] at h
  exact h

theorem S0_share (d : Dev nD) (li : Fin 6) (h : Fin 2) (r : Fin 384) (x : Fin 128) :
    S0 A B d li h r x = share A B (rowH h r) (colT (third li) (colS (side li) x)) d :=
  pay7_apply _ _ _ _

/-- All eight devices' shares, at the row and column a device's sum stands for. -/
theorem S3_sum (c : Dev nD) (li : Fin 6) (r : Fin 192) (x : Fin 128) :
    S3 A B c li r x
      = ∑ d, share A B (rowH (hb li c) (rowQ (qb li c) r)) (colT (third li) (colS (side li) x)) d := by
  rw [← sum_reached _ li c]
  show ((S0 A B _ _ _ _ _ + S0 A B _ _ _ _ _ : EReal) + (S0 A B _ _ _ _ _ + S0 A B _ _ _ _ _ : EReal) : EReal)
    + ((S0 A B _ _ _ _ _ + S0 A B _ _ _ _ _ : EReal) + (S0 A B _ _ _ _ _ + S0 A B _ _ _ _ _ : EReal) : EReal) = _
  simp only [S0_share, hb_par1, hb_par2, qb_par2]

theorem row_owner (c : Dev nD) (li : Fin 6) (r : Fin 768) :
    rowH (hb li (owner c li (r.val / 192))) (rowQ (qb li (owner c li (r.val / 192))) (rowIn r)) = r := by
  have h := quarter_owner li c ⟨r.val / 192, by omega⟩
  unfold quarter at h
  dsimp only at h
  apply Fin.ext
  show (hb li _).val * 384 + ((qb li _).val * 192 + r.val % 192) = r.val
  omega

theorem col_lane (x : Fin 768) : colT (third (laneOf x)) (colS (side (laneOf x)) (colIn x)) = x := by
  apply Fin.ext
  show x.val / 128 / 2 * 256 + (x.val / 128 % 2 * 128 + x.val % 128) = x.val
  omega

/-- Every device's result is the sum of the eight devices' shares. -/
theorem outG_sum (c : Dev nD) (r x : Fin 768) : outG A B c (at2 r x) = ∑ d, share A B r x d := by
  show S3 A B (owner c (laneOf x) (r.val / 192)) (laneOf x) (rowIn r) (colIn x) = _
  rw [S3_sum, row_owner, col_lane]

end Sums

/-! ## The whole operands -/

/-- A sum over the whole summed axis, block by block. -/
theorem sum_blocks (g : Fin 3072 → EReal) : ∑ d : Fin 8, ∑ k : Fin 384, g ⟨d.val * 384 + k.val, by omega⟩ = ∑ k, g k := by
  rw [← Fintype.sum_prod_type' (f := fun (d : Fin 8) (k : Fin 384) => g ⟨d.val * 384 + k.val, by omega⟩)]
  rw [← Equiv.sum_comp (finProdFinEquiv (m := 8) (n := 384)) g]
  refine Finset.sum_congr rfl fun p _ => congrArg g (Fin.ext ?_)
  show p.1.val * 384 + p.2.val = p.2.val + 384 * p.1.val
  omega

/-- With the blocks of the whole operands on the devices, each device's result is the product of the whole ones. -/
theorem outG_dot (X : FVec Ideal ⟨2, ![768, 3072]⟩ .bf16) (Y : FVec Ideal ⟨2, ![3072, 768]⟩ .bf16)
    (A : Dev nD → Vec Ideal S768x384 .bf16) (B : Dev nD → Vec Ideal S384x768 .bf16)
    (hA : ∀ d, A d = Layout.block ⟨2, ![768, 384]⟩ ⟨2, ![768, 3072]⟩ 1 8 d X)
    (hB : ∀ d, B d = Layout.block ⟨2, ![384, 768]⟩ ⟨2, ![3072, 768]⟩ 0 8 d Y) (c : Dev nD) :
    outG A B c = truncf .bf16 (Host.dotGeneral Cert.ReferenceIdeal.dot_S768x3072_S3072x768_S768x768_1_0_0_1_n_n none X Y)
      Cert.ReferenceIdeal.Gen.bitsLt_bf16_f32 := by
  funext i
  obtain ⟨r, x, rfl⟩ : ∃ r x : Fin 768, i = at2 r x := ⟨i 0, i 1, ValueIdx.eq_ix2 i⟩
  rw [outG_sum]
  refine Eq.trans ?_ (StackMember.dotGeneral_plain_apply (m := 768) (k := 3072) (n := 768) (φ₁ := .bf16) (φ₂ := .bf16) none X Y r x).symm
  rw [← sum_blocks]
  refine Finset.sum_congr rfl fun d _ => Finset.sum_congr rfl fun k _ => ?_
  rw [hA, hB]
  have hd : d.val < 8 := d.isLt
  have h1 : Layout.block ⟨2, ![768, 384]⟩ ⟨2, ![768, 3072]⟩ 1 8 d X (by decide) (at2 r k) = X (at2 r ⟨d.val * 384 + k.val, by omega⟩) :=
    congrArg X (funext fun a => by fin_cases a <;> rfl)
  have h2 : Layout.block ⟨2, ![384, 768]⟩ ⟨2, ![3072, 768]⟩ 0 8 d Y (by decide) (at2 k x) = Y (at2 ⟨d.val * 384 + k.val, by omega⟩ x) :=
    congrArg Y (funext fun a => by fin_cases a <;> rfl)
  exact congrArg₂ (fun a b : EReal => a * b) h1 h2

/-! ## What the run leaves in the result array -/

section Run

variable {F : FTy → Type} [FloatOps F] (m : (ℓ : Loc nD τ sig) → Buf (Elt F) ℓ) (ρ : Dev nD → PrngReg)

theorem opA_eq (c : Dev nD) : opA m c = m ((c.tc : Thread nD τ).loc main_arg0) :=
  Memref.read_access_unit_zero (Elt F) main_arg0 (funext fun a => by fin_cases a <;> decide) (fun a => by fin_cases a <;> decide) _
theorem opB_eq (c : Dev nD) : opB m c = m ((c.tc : Thread nD τ).loc main_arg1) :=
  Memref.read_access_unit_zero (Elt F) main_arg1 (funext fun a => by fin_cases a <;> decide) (fun a => by fin_cases a <;> decide) _

/-- The result array ends at the sums as their owners formed them. -/
theorem finalA_out (c : Dev nD) : finalA m ρ c (2 : Fin 3) = outG (opA m) (opB m) c := by
  have hw : (win0_2.blk (0 : Fin 1)).view.read (Elt F) (finalA m ρ c (2 : Fin 3)) = outG (opA m) (opB m) c := by
    unfold finalA
    rw [show cfg0.N = ((0 : Fin 1) : Fin cfg0.N).val + 1 from rfl, (dats m ρ 0 c).arrAt_succ (2 : Fin 3) (0 : Fin 1),
      if_pos (show (cfg0.win (2 : Fin 3)).flush (0 : Fin 1) = true by decide)]
    exact View.read_write_univ _ _
  exact (Memref.read_access_unit_zero (Elt F) main_v1 (funext fun a => by fin_cases a <;> decide)
    (fun a => by fin_cases a <;> decide) _).symm.trans hw

end Run

end Cert.KernelIdealProof

end
-- ==== Proof.lean ====
/-
# The claims

Frames of the kernel at its floats and over the extended reals (from the launch, Proof/Kernel and Proof/KernelIdeal), the
frame of the reference (a straight line of two operations that declares no semaphore), and `algebraic`: over the
extended reals every device's result is the reference's product of the whole operands (Proof/Value). No operation was
rewritten, so `preserves` has nothing to show.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_kernel : Cert.quiescent_Kernel := fun m g _ => Cert.KernelProof.frame m g

theorem frame_ideal : Cert.quiescent_KernelIdeal := fun m g _ => Cert.KernelIdealProof.frame m g

theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run m g)

/-- Every device's result is the whole product. -/
theorem algebraic : Cert.algebraic_KernelIdeal_ReferenceIdeal := by
  intro m g m' g' _ hagree
  refine ⟨_, ?_, (θ_run Cert.ReferenceIdeal.defs _ _).mono (fun _ h => h 0) (Cert.ReferenceIdeal.Value.run m' g')⟩
  refine (θ_run Cert.KernelIdeal.defs _ _).mono
    (fun _ h c => ⟨(h.1 c (2 : Fin 3)).trans ?_, Cert.KernelIdealProof.kept m g h.1 c⟩) (Cert.KernelIdealProof.run_main m g)
  rw [Cert.KernelIdealProof.finalA_out]
  exact Cert.KernelIdealProof.outG_dot _ _ _ _
    (fun d => (Cert.KernelIdealProof.opA_eq m d).trans (hagree d).1)
    (fun d => (Cert.KernelIdealProof.opB_eq m d).trans (hagree d).2) c

theorem claim : Cert.Claim := ⟨Cert.Kernel.Gen.facts, Cert.KernelIdeal.Gen.facts, Cert.ReferenceIdeal.Gen.facts,
  frame_kernel, frame_ideal, frame_reference, trivial, algebraic⟩

end Cert.Proof

end
